-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv448" .f32 0x3B124925#32 ((1 / 448 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "gate_k" .f32 0x3EA88D5C#32 ((370650180020949 / 1125899906842624 : ℝ) : EReal)
  ∧ IdealRules.named_const.Statement Cert.KernelIdeal.κ "up_k" .f32 0x3FC2689C#32 ((562949953421312 / 370650180020949 : ℝ) : EReal)
  ∧ IdealRules.named_const.Statement Cert.KernelIdeal.κ "c_gate" .f32 0x401B1D9B#32 (((Real.sqrt (2 * Real.pi⁻¹)) * (1125899906842624 / 370650180020949) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_v13_2) = v2 c
          ∧ r.2.mem ((c.tc : Thread Cert.ReferenceIdeal.nD Cert.ReferenceIdeal.τ).loc Cert.ReferenceIdeal.main_v13_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1280 : Shape := ⟨3, ![2, 8192, 1280]⟩
abbrev S1280x22x2x128 : Shape := ⟨4, ![1280, 22, 2, 128]⟩
abbrev S22x2x128 : Shape := ⟨3, ![22, 2, 128]⟩
abbrev S22x2x1280x128 : Shape := ⟨4, ![22, 2, 1280, 128]⟩
abbrev S2x8192x2816 : Shape := ⟨3, ![2, 8192, 2816]⟩
abbrev S22x2x8192 : Shape := ⟨3, ![22, 2, 8192]⟩
abbrev S2x1x8192 : Shape := ⟨3, ![2, 1, 8192]⟩
abbrev S2x512x1280 : Shape := ⟨3, ![2, 512, 1280]⟩
abbrev S2x512x2816 : Shape := ⟨3, ![2, 512, 2816]⟩
abbrev S22x2x512 : Shape := ⟨3, ![22, 2, 512]⟩
abbrev S2x1x512 : Shape := ⟨3, ![2, 1, 512]⟩
abbrev S2x512x128 : Shape := ⟨3, ![2, 512, 128]⟩
abbrev S1x32x1280 : Shape := ⟨3, ![1, 32, 1280]⟩
abbrev S32x1280 : Shape := ⟨2, ![32, 1280]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S1x1x1280x128 : Shape := ⟨4, ![1, 1, 1280, 128]⟩
abbrev S1280x128 : Shape := ⟨2, ![1280, 128]⟩
abbrev S1280x256 : Shape := ⟨2, ![1280, 256]⟩
abbrev S1x1x128 : Shape := ⟨3, ![1, 1, 128]⟩
abbrev S1x128 : Shape := ⟨2, ![1, 128]⟩
abbrev S1x512x1280 : Shape := ⟨3, ![1, 512, 1280]⟩
abbrev S512x1280 : Shape := ⟨2, ![512, 1280]⟩
abbrev S512x256 : Shape := ⟨2, ![512, 256]⟩
abbrev S1x32x1 : Shape := ⟨3, ![1, 32, 1]⟩
abbrev S1x512x128 : Shape := ⟨3, ![1, 512, 128]⟩
abbrev S512x128 : Shape := ⟨2, ![512, 128]⟩
abbrev S128x512 : Shape := ⟨2, ![128, 512]⟩
abbrev S1x512 : Shape := ⟨2, ![1, 512]⟩
abbrev S22x512 : Shape := ⟨2, ![22, 512]⟩
abbrev S22x1x512 : Shape := ⟨3, ![22, 1, 512]⟩
abbrev S1x1x512 : Shape := ⟨3, ![1, 1, 512]⟩

abbrev nBuf : Space → Nat
  | .hbm => 8
  | .vmem => 14
  | .smem => 0
  | _ => 0

abbrev bufTy : (tb : Table) → Fin (tcTables nBuf tb) → BufTy
  | .hbm, ⟨0, _⟩ => ⟨S2x8192x1280, .bf16⟩
  | .hbm, ⟨1, _⟩ => ⟨S1280x22x2x128, .fp8e4m3⟩
  | .hbm, ⟨2, _⟩ => ⟨S22x2x128, .f32⟩
  | .hbm, ⟨3, _⟩ => ⟨S22x2x1280x128, .fp8e4m3⟩
  | .hbm, ⟨4, _⟩ => ⟨S2x8192x2816, .fp8e4m3⟩
  | .hbm, ⟨5, _⟩ => ⟨S22x2x8192, .f32⟩
  | .hbm, ⟨6, _⟩ => ⟨S2x8192x1280, .fp8e4m3⟩
  | .hbm, ⟨7, _⟩ => ⟨S2x1x8192, .f32⟩
  | .local _ .vmem, ⟨0, _⟩ => ⟨S2x512x1280, .bf16⟩
  | .local _ .vmem, ⟨1, _⟩ => ⟨S2x512x1280, .bf16⟩
  | .local _ .vmem, ⟨2, _⟩ => ⟨S22x2x1280x128, .fp8e4m3⟩
  | .local _ .vmem, ⟨3, _⟩ => ⟨S22x2x128, .f32⟩
  | .local _ .vmem, ⟨4, _⟩ => ⟨S2x512x2816, .fp8e4m3⟩
  | .local _ .vmem, ⟨5, _⟩ => ⟨S2x512x2816, .fp8e4m3⟩
  | .local _ .vmem, ⟨6, _⟩ => ⟨S22x2x512, .f32⟩
  | .local _ .vmem, ⟨7, _⟩ => ⟨S22x2x512, .f32⟩
  | .local _ .vmem, ⟨8, _⟩ => ⟨S2x512x1280, .fp8e4m3⟩
  | .local _ .vmem, ⟨9, _⟩ => ⟨S2x512x1280, .fp8e4m3⟩
  | .local _ .vmem, ⟨10, _⟩ => ⟨S2x1x512, .f32⟩
  | .local _ .vmem, ⟨11, _⟩ => ⟨S2x1x512, .f32⟩
  | .local _ .vmem, ⟨12, _⟩ => ⟨S2x512x128, .f32⟩
  | .local _ .vmem, ⟨13, _⟩ => ⟨S2x512x128, .f32⟩
  | _, _ => ⟨S2x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c22_i32 : BitVec 32 := 22#32
  let v1568 : BitVec 32 := Scalar.addi c0_i32 c22_i32
  let c1_i32 : BitVec 32 := 1#32
  ⟨c0_i32, v1568, c1_i32⟩
def k0_off1 (k0_t1 : Fin k0_t1_loop.trips) : Fin 4 → Nat :=
  let c0_i32 : BitVec 32 := 0#32
  let c1_i32 : BitVec 32 := 1#32
  let arg10 : BitVec 32 := Scf.iv c0_i32 c1_i32 k0_t1
  let v1633 : Index := Scalar.indexCast arg10
  let c0_785 : Index := 0#32
  let c0_786 : Index := 0#32
  let c0_787 : Index := 0#32
  ![v1633.toNat, 0, 0, 0]
def k0_off2 (k0_t1 : Fin k0_t1_loop.trips) : Fin 4 → Nat :=
  let c0_i32 : BitVec 32 := 0#32
  let c1_i32 : BitVec 32 := 1#32
  let arg10 : BitVec 32 := Scf.iv c0_i32 c1_i32 k0_t1
  let v1636 : Index := Scalar.indexCast arg10
  let c1_788 : Index := 1#32
  let c0_789 : Index := 0#32
  let c0_790 : Index := 0#32
  ![v1636.toNat, 1, 0, 0]
def k0_off3 (k0_t1 : Fin k0_t1_loop.trips) : Fin 3 → Nat :=
  let c0_i32 : BitVec 32 := 0#32
  let c1_i32 : BitVec 32 := 1#32
  let arg10 : BitVec 32 := Scf.iv c0_i32 c1_i32 k0_t1
  let v1640 : Index := Scalar.indexCast arg10
  let c0_791 : Index := 0#32
  let c0_792 : Index := 0#32
  ![v1640.toNat, 0, 0]
def k0_off4 (k0_t1 : Fin k0_t1_loop.trips) : Fin 3 → Nat :=
  let c0_i32 : BitVec 32 := 0#32
  let c1_i32 : BitVec 32 := 1#32
  let arg10 : BitVec 32 := Scf.iv c0_i32 c1_i32 k0_t1
  let v1645 : Index := Scalar.indexCast arg10
  let c1_794 : Index := 1#32
  let c0_795 : Index := 0#32
  ![v1645.toNat, 1, 0]
def k0_off5 (k0_t1 : Fin k0_t1_loop.trips) : Fin 3 → Nat :=
  let c0_806 : Index := 0#32
  let c0_807 : Index := 0#32
  let c0_i32 : BitVec 32 := 0#32
  let c1_i32 : BitVec 32 := 1#32
  let arg10 : BitVec 32 := Scf.iv c0_i32 c1_i32 k0_t1
  let v1673 : Index := Scalar.indexCast arg10
  ![0, 0, v1673.toNat]
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32 : BitVec 32 := 128#32
  let v1697 : BitVec 32 := Scalar.muli arg10 c128_i32
  v1697
def k0_off6 (k0_t1 : Fin k0_t1_loop.trips) : Fin 3 → Nat :=
  let c0_815 : Index := 0#32
  let c0_816 : Index := 0#32
  let c0_i32 : BitVec 32 := 0#32
  let c1_i32 : BitVec 32 := 1#32
  let arg10 : BitVec 32 := Scf.iv c0_i32 c1_i32 k0_t1
  let c128_i32 : BitVec 32 := 128#32
  let v1697 : BitVec 32 := Scalar.muli arg10 c128_i32
  let v1698 : BitVec 32 := v1697
  let v1699 : Index := Scalar.indexCast v1698
  ![0, 0, v1699.toNat]
def k0_off7 (k0_t1 : Fin k0_t1_loop.trips) : Fin 3 → Nat :=
  let c0_822 : Index := 0#32
  let c32_823 : Index := 32#32
  let c0_i32 : BitVec 32 := 0#32
  let c1_i32 : BitVec 32 := 1#32
  let arg10 : BitVec 32 := Scf.iv c0_i32 c1_i32 k0_t1
  let v1723 : Index := Scalar.indexCast arg10
  ![0, 32, v1723.toNat]
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_831 : BitVec 32 := 128#32
  let v1747 : BitVec 32 := Scalar.muli arg10 c128_i32_831
  v1747
def k0_off8 (k0_t1 : Fin k0_t1_loop.trips) : Fin 3 → Nat :=
  let c0_832 : Index := 0#32
  let c32_833 : Index := 32#32
  let c0_i32 : BitVec 32 := 0#32
  let c1_i32 : BitVec 32 := 1#32
  let arg10 : BitVec 32 := Scf.iv c0_i32 c1_i32 k0_t1
  let c128_i32_831 : BitVec 32 := 128#32
  let v1747 : BitVec 32 := Scalar.muli arg10 c128_i32_831
  let v1748 : BitVec 32 := v1747
  let v1749 : Index := Scalar.indexCast v1748
  ![0, 32, v1749.toNat]
def k0_off9 (k0_t1 : Fin k0_t1_loop.trips) : Fin 3 → Nat :=
  let c0_839 : Index := 0#32
  let c64_840 : Index := 64#32
  let c0_i32 : BitVec 32 := 0#32
  let c1_i32 : BitVec 32 := 1#32
  let arg10 : BitVec 32 := Scf.iv c0_i32 c1_i32 k0_t1
  let v1773 : Index := Scalar.indexCast arg10
  ![0, 64, v1773.toNat]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_848 : BitVec 32 := 128#32
  let v1797 : BitVec 32 := Scalar.muli arg10 c128_i32_848
  v1797
def k0_off10 (k0_t1 : Fin k0_t1_loop.trips) : Fin 3 → Nat :=
  let c0_849 : Index := 0#32
  let c64_850 : Index := 64#32
  let c0_i32 : BitVec 32 := 0#32
  let c1_i32 : BitVec 32 := 1#32
  let arg10 : BitVec 32 := Scf.iv c0_i32 c1_i32 k0_t1
  let c128_i32_848 : BitVec 32 := 128#32
  let v1797 : BitVec 32 := Scalar.muli arg10 c128_i32_848
  let v1798 : BitVec 32 := v1797
  let v1799 : Index := Scalar.indexCast v1798
  ![0, 64, v1799.toNat]
def k0_off11 (k0_t1 : Fin k0_t1_loop.trips) : Fin 3 → Nat :=
  let c0_856 : Index := 0#32
  let c96_857 : Index := 96#32
  let c0_i32 : BitVec 32 := 0#32
  let c1_i32 : BitVec 32 := 1#32
  let arg10 : BitVec 32 := Scf.iv c0_i32 c1_i32 k0_t1
  let v1823 : Index := Scalar.indexCast arg10
  ![0, 96, v1823.toNat]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_865 : BitVec 32 := 128#32
  let v1847 : BitVec 32 := Scalar.muli arg10 c128_i32_865
  v1847
def k0_off12 (k0_t1 : Fin k0_t1_loop.trips) : Fin 3 → Nat :=
  let c0_866 : Index := 0#32
  let c96_867 : Index := 96#32
  let c0_i32 : BitVec 32 := 0#32
  let c1_i32 : BitVec 32 := 1#32
  let arg10 : BitVec 32 := Scf.iv c0_i32 c1_i32 k0_t1
  let c128_i32_865 : BitVec 32 := 128#32
  let v1847 : BitVec 32 := Scalar.muli arg10 c128_i32_865
  let v1848 : BitVec 32 := v1847
  let v1849 : Index := Scalar.indexCast v1848
  ![0, 96, v1849.toNat]
def k0_off13 (k0_t1 : Fin k0_t1_loop.trips) : Fin 3 → Nat :=
  let c0_873 : Index := 0#32
  let c128_874 : Index := 128#32
  let c0_i32 : BitVec 32 := 0#32
  let c1_i32 : BitVec 32 := 1#32
  let arg10 : BitVec 32 := Scf.iv c0_i32 c1_i32 k0_t1
  let v1873 : Index := Scalar.indexCast arg10
  ![0, 128, v1873.toNat]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_882 : BitVec 32 := 128#32
  let v1897 : BitVec 32 := Scalar.muli arg10 c128_i32_882
  v1897
def k0_off14 (k0_t1 : Fin k0_t1_loop.trips) : Fin 3 → Nat :=
  let c0_883 : Index := 0#32
  let c128_884 : Index := 128#32
  let c0_i32 : BitVec 32 := 0#32
  let c1_i32 : BitVec 32 := 1#32
  let arg10 : BitVec 32 := Scf.iv c0_i32 c1_i32 k0_t1
  let c128_i32_882 : BitVec 32 := 128#32
  let v1897 : BitVec 32 := Scalar.muli arg10 c128_i32_882
  let v1898 : BitVec 32 := v1897
  let v1899 : Index := Scalar.indexCast v1898
  ![0, 128, v1899.toNat]
def k0_off15 (k0_t1 : Fin k0_t1_loop.trips) : Fin 3 → Nat :=
  let c0_890 : Index := 0#32
  let c160_891 : Index := 160#32
  let c0_i32 : BitVec 32 := 0#32
  let c1_i32 : BitVec 32 := 1#32
  let arg10 : BitVec 32 := Scf.iv c0_i32 c1_i32 k0_t1
  let v1923 : Index := Scalar.indexCast arg10
  ![0, 160, v1923.toNat]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_899 : BitVec 32 := 128#32
  let v1947 : BitVec 32 := Scalar.muli arg10 c128_i32_899
  v1947
def k0_off16 (k0_t1 : Fin k0_t1_loop.trips) : Fin 3 → Nat :=
  let c0_900 : Index := 0#32
  let c160_901 : Index := 160#32
  let c0_i32 : BitVec 32 := 0#32
  let c1_i32 : BitVec 32 := 1#32
  let arg10 : BitVec 32 := Scf.iv c0_i32 c1_i32 k0_t1
  let c128_i32_899 : BitVec 32 := 128#32
  let v1947 : BitVec 32 := Scalar.muli arg10 c128_i32_899
  let v1948 : BitVec 32 := v1947
  let v1949 : Index := Scalar.indexCast v1948
  ![0, 160, v1949.toNat]
def k0_off17 (k0_t1 : Fin k0_t1_loop.trips) : Fin 3 → Nat :=
  let c0_907 : Index := 0#32
  let c192_908 : Index := 192#32
  let c0_i32 : BitVec 32 := 0#32
  let c1_i32 : BitVec 32 := 1#32
  let arg10 : BitVec 32 := Scf.iv c0_i32 c1_i32 k0_t1
  let v1973 : Index := Scalar.indexCast arg10
  ![0, 192, v1973.toNat]
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_916 : BitVec 32 := 128#32
  let v1997 : BitVec 32 := Scalar.muli arg10 c128_i32_916
  v1997
def k0_off18 (k0_t1 : Fin k0_t1_loop.trips) : Fin 3 → Nat :=
  let c0_917 : Index := 0#32
  let c192_918 : Index := 192#32
  let c0_i32 : BitVec 32 := 0#32
  let c1_i32 : BitVec 32 := 1#32
  let arg10 : BitVec 32 := Scf.iv c0_i32 c1_i32 k0_t1
  let c128_i32_916 : BitVec 32 := 128#32
  let v1997 : BitVec 32 := Scalar.muli arg10 c128_i32_916
  let v1998 : BitVec 32 := v1997
  let v1999 : Index := Scalar.indexCast v1998
  ![0, 192, v1999.toNat]
def k0_off19 (k0_t1 : Fin k0_t1_loop.trips) : Fin 3 → Nat :=
  let c0_924 : Index := 0#32
  let c224_925 : Index := 224#32
  let c0_i32 : BitVec 32 := 0#32
  let c1_i32 : BitVec 32 := 1#32
  let arg10 : BitVec 32 := Scf.iv c0_i32 c1_i32 k0_t1
  let v2023 : Index := Scalar.indexCast arg10
  ![0, 224, v2023.toNat]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_933 : BitVec 32 := 128#32
  let v2047 : BitVec 32 := Scalar.muli arg10 c128_i32_933
  v2047
def k0_off20 (k0_t1 : Fin k0_t1_loop.trips) : Fin 3 → Nat :=
  let c0_934 : Index := 0#32
  let c224_935 : Index := 224#32
  let c0_i32 : BitVec 32 := 0#32
  let c1_i32 : BitVec 32 := 1#32
  let arg10 : BitVec 32 := Scf.iv c0_i32 c1_i32 k0_t1
  let c128_i32_933 : BitVec 32 := 128#32
  let v2047 : BitVec 32 := Scalar.muli arg10 c128_i32_933
  let v2048 : BitVec 32 := v2047
  let v2049 : Index := Scalar.indexCast v2048
  ![0, 224, v2049.toNat]
def k0_off21 (k0_t1 : Fin k0_t1_loop.trips) : Fin 3 → Nat :=
  let c0_941 : Index := 0#32
  let c256_942 : Index := 256#32
  let c0_i32 : BitVec 32 := 0#32
  let c1_i32 : BitVec 32 := 1#32
  let arg10 : BitVec 32 := Scf.iv c0_i32 c1_i32 k0_t1
  let v2073 : Index := Scalar.indexCast arg10
  ![0, 256, v2073.toNat]
def k0_mult9 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_950 : BitVec 32 := 128#32
  let v2097 : BitVec 32 := Scalar.muli arg10 c128_i32_950
  v2097
def k0_off22 (k0_t1 : Fin k0_t1_loop.trips) : Fin 3 → Nat :=
  let c0_951 : Index := 0#32
  let c256_952 : Index := 256#32
  let c0_i32 : BitVec 32 := 0#32
  let c1_i32 : BitVec 32 := 1#32
  let arg10 : BitVec 32 := Scf.iv c0_i32 c1_i32 k0_t1
  let c128_i32_950 : BitVec 32 := 128#32
  let v2097 : BitVec 32 := Scalar.muli arg10 c128_i32_950
  let v2098 : BitVec 32 := v2097
  let v2099 : Index := Scalar.indexCast v2098
  ![0, 256, v2099.toNat]
def k0_off23 (k0_t1 : Fin k0_t1_loop.trips) : Fin 3 → Nat :=
  let c0_958 : Index := 0#32
  let c288_959 : Index := 288#32
  let c0_i32 : BitVec 32 := 0#32
  let c1_i32 : BitVec 32 := 1#32
  let arg10 : BitVec 32 := Scf.iv c0_i32 c1_i32 k0_t1
  let v2123 : Index := Scalar.indexCast arg10
  ![0, 288, v2123.toNat]
def k0_mult10 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_967 : BitVec 32 := 128#32
  let v2147 : BitVec 32 := Scalar.muli arg10 c128_i32_967
  v2147
def k0_off24 (k0_t1 : Fin k0_t1_loop.trips) : Fin 3 → Nat :=
  let c0_968 : Index := 0#32
  let c288_969 : Index := 288#32
  let c0_i32 : BitVec 32 := 0#32
  let c1_i32 : BitVec 32 := 1#32
  let arg10 : BitVec 32 := Scf.iv c0_i32 c1_i32 k0_t1
  let c128_i32_967 : BitVec 32 := 128#32
  let v2147 : BitVec 32 := Scalar.muli arg10 c128_i32_967
  let v2148 : BitVec 32 := v2147
  let v2149 : Index := Scalar.indexCast v2148
  ![0, 288, v2149.toNat]
def k0_off25 (k0_t1 : Fin k0_t1_loop.trips) : Fin 3 → Nat :=
  let c0_975 : Index := 0#32
  let c320_976 : Index := 320#32
  let c0_i32 : BitVec 32 := 0#32
  let c1_i32 : BitVec 32 := 1#32
  let arg10 : BitVec 32 := Scf.iv c0_i32 c1_i32 k0_t1
  let v2173 : Index := Scalar.indexCast arg10
  ![0, 320, v2173.toNat]
def k0_mult11 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_984 : BitVec 32 := 128#32
  let v2197 : BitVec 32 := Scalar.muli arg10 c128_i32_984
  v2197
def k0_off26 (k0_t1 : Fin k0_t1_loop.trips) : Fin 3 → Nat :=
  let c0_985 : Index := 0#32
  let c320_986 : Index := 320#32
  let c0_i32 : BitVec 32 := 0#32
  let c1_i32 : BitVec 32 := 1#32
  let arg10 : BitVec 32 := Scf.iv c0_i32 c1_i32 k0_t1
  let c128_i32_984 : BitVec 32 := 128#32
  let v2197 : BitVec 32 := Scalar.muli arg10 c128_i32_984
  let v2198 : BitVec 32 := v2197
  let v2199 : Index := Scalar.indexCast v2198
  ![0, 320, v2199.toNat]
def k0_off27 (k0_t1 : Fin k0_t1_loop.trips) : Fin 3 → Nat :=
  let c0_992 : Index := 0#32
  let c352_993 : Index := 352#32
  let c0_i32 : BitVec 32 := 0#32
  let c1_i32 : BitVec 32 := 1#32
  let arg10 : BitVec 32 := Scf.iv c0_i32 c1_i32 k0_t1
  let v2223 : Index := Scalar.indexCast arg10
  ![0, 352, v2223.toNat]
def k0_mult12 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1001 : BitVec 32 := 128#32
  let v2247 : BitVec 32 := Scalar.muli arg10 c128_i32_1001
  v2247
def k0_off28 (k0_t1 : Fin k0_t1_loop.trips) : Fin 3 → Nat :=
  let c0_1002 : Index := 0#32
  let c352_1003 : Index := 352#32
  let c0_i32 : BitVec 32 := 0#32
  let c1_i32 : BitVec 32 := 1#32
  let arg10 : BitVec 32 := Scf.iv c0_i32 c1_i32 k0_t1
  let c128_i32_1001 : BitVec 32 := 128#32
  let v2247 : BitVec 32 := Scalar.muli arg10 c128_i32_1001
  let v2248 : BitVec 32 := v2247
  let v2249 : Index := Scalar.indexCast v2248
  ![0, 352, v2249.toNat]
def k0_off29 (k0_t1 : Fin k0_t1_loop.trips) : Fin 3 → Nat :=
  let c0_1009 : Index := 0#32
  let c384_1010 : Index := 384#32
  let c0_i32 : BitVec 32 := 0#32
  let c1_i32 : BitVec 32 := 1#32
  let arg10 : BitVec 32 := Scf.iv c0_i32 c1_i32 k0_t1
  let v2273 : Index := Scalar.indexCast arg10
  ![0, 384, v2273.toNat]
def k0_mult13 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1018 : BitVec 32 := 128#32
  let v2297 : BitVec 32 := Scalar.muli arg10 c128_i32_1018
  v2297
def k0_off30 (k0_t1 : Fin k0_t1_loop.trips) : Fin 3 → Nat :=
  let c0_1019 : Index := 0#32
  let c384_1020 : Index := 384#32
  let c0_i32 : BitVec 32 := 0#32
  let c1_i32 : BitVec 32 := 1#32
  let arg10 : BitVec 32 := Scf.iv c0_i32 c1_i32 k0_t1
  let c128_i32_1018 : BitVec 32 := 128#32
  let v2297 : BitVec 32 := Scalar.muli arg10 c128_i32_1018
  let v2298 : BitVec 32 := v2297
  let v2299 : Index := Scalar.indexCast v2298
  ![0, 384, v2299.toNat]
def k0_off31 (k0_t1 : Fin k0_t1_loop.trips) : Fin 3 → Nat :=
  let c0_1026 : Index := 0#32
  let c416_1027 : Index := 416#32
  let c0_i32 : BitVec 32 := 0#32
  let c1_i32 : BitVec 32 := 1#32
  let arg10 : BitVec 32 := Scf.iv c0_i32 c1_i32 k0_t1
  let v2323 : Index := Scalar.indexCast arg10
  ![0, 416, v2323.toNat]
def k0_mult14 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1035 : BitVec 32 := 128#32
  let v2347 : BitVec 32 := Scalar.muli arg10 c128_i32_1035
  v2347
def k0_off32 (k0_t1 : Fin k0_t1_loop.trips) : Fin 3 → Nat :=
  let c0_1036 : Index := 0#32
  let c416_1037 : Index := 416#32
  let c0_i32 : BitVec 32 := 0#32
  let c1_i32 : BitVec 32 := 1#32
  let arg10 : BitVec 32 := Scf.iv c0_i32 c1_i32 k0_t1
  let c128_i32_1035 : BitVec 32 := 128#32
  let v2347 : BitVec 32 := Scalar.muli arg10 c128_i32_1035
  let v2348 : BitVec 32 := v2347
  let v2349 : Index := Scalar.indexCast v2348
  ![0, 416, v2349.toNat]
def k0_off33 (k0_t1 : Fin k0_t1_loop.trips) : Fin 3 → Nat :=
  let c0_1043 : Index := 0#32
  let c448_1044 : Index := 448#32
  let c0_i32 : BitVec 32 := 0#32
  let c1_i32 : BitVec 32 := 1#32
  let arg10 : BitVec 32 := Scf.iv c0_i32 c1_i32 k0_t1
  let v2373 : Index := Scalar.indexCast arg10
  ![0, 448, v2373.toNat]
def k0_mult15 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1052 : BitVec 32 := 128#32
  let v2397 : BitVec 32 := Scalar.muli arg10 c128_i32_1052
  v2397
def k0_off34 (k0_t1 : Fin k0_t1_loop.trips) : Fin 3 → Nat :=
  let c0_1053 : Index := 0#32
  let c448_1054 : Index := 448#32
  let c0_i32 : BitVec 32 := 0#32
  let c1_i32 : BitVec 32 := 1#32
  let arg10 : BitVec 32 := Scf.iv c0_i32 c1_i32 k0_t1
  let c128_i32_1052 : BitVec 32 := 128#32
  let v2397 : BitVec 32 := Scalar.muli arg10 c128_i32_1052
  let v2398 : BitVec 32 := v2397
  let v2399 : Index := Scalar.indexCast v2398
  ![0, 448, v2399.toNat]
def k0_off35 (k0_t1 : Fin k0_t1_loop.trips) : Fin 3 → Nat :=
  let c0_1060 : Index := 0#32
  let c480_1061 : Index := 480#32
  let c0_i32 : BitVec 32 := 0#32
  let c1_i32 : BitVec 32 := 1#32
  let arg10 : BitVec 32 := Scf.iv c0_i32 c1_i32 k0_t1
  let v2423 : Index := Scalar.indexCast arg10
  ![0, 480, v2423.toNat]
def k0_mult16 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1069 : BitVec 32 := 128#32
  let v2447 : BitVec 32 := Scalar.muli arg10 c128_i32_1069
  v2447
def k0_off36 (k0_t1 : Fin k0_t1_loop.trips) : Fin 3 → Nat :=
  let c0_1070 : Index := 0#32
  let c480_1071 : Index := 480#32
  let c0_i32 : BitVec 32 := 0#32
  let c1_i32 : BitVec 32 := 1#32
  let arg10 : BitVec 32 := Scf.iv c0_i32 c1_i32 k0_t1
  let c128_i32_1069 : BitVec 32 := 128#32
  let v2447 : BitVec 32 := Scalar.muli arg10 c128_i32_1069
  let v2448 : BitVec 32 := v2447
  let v2449 : Index := Scalar.indexCast v2448
  ![0, 480, v2449.toNat]
def k0_off37 (k0_t1 : Fin k0_t1_loop.trips) : Fin 3 → Nat :=
  let c1_1081 : Index := 1#32
  let c0_1082 : Index := 0#32
  let c0_i32 : BitVec 32 := 0#32
  let c1_i32 : BitVec 32 := 1#32
  let arg10 : BitVec 32 := Scf.iv c0_i32 c1_i32 k0_t1
  let v2476 : Index := Scalar.indexCast arg10
  ![1, 0, v2476.toNat]
def k0_mult17 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1090 : BitVec 32 := 128#32
  let v2500 : BitVec 32 := Scalar.muli arg10 c128_i32_1090
  v2500
def k0_off38 (k0_t1 : Fin k0_t1_loop.trips) : Fin 3 → Nat :=
  let c1_1091 : Index := 1#32
  let c0_1092 : Index := 0#32
  let c0_i32 : BitVec 32 := 0#32
  let c1_i32 : BitVec 32 := 1#32
  let arg10 : BitVec 32 := Scf.iv c0_i32 c1_i32 k0_t1
  let c128_i32_1090 : BitVec 32 := 128#32
  let v2500 : BitVec 32 := Scalar.muli arg10 c128_i32_1090
  let v2501 : BitVec 32 := v2500
  let v2502 : Index := Scalar.indexCast v2501
  ![1, 0, v2502.toNat]
def k0_off39 (k0_t1 : Fin k0_t1_loop.trips) : Fin 3 → Nat :=
  let c1_1098 : Index := 1#32
  let c32_1099 : Index := 32#32
  let c0_i32 : BitVec 32 := 0#32
  let c1_i32 : BitVec 32 := 1#32
  let arg10 : BitVec 32 := Scf.iv c0_i32 c1_i32 k0_t1
  let v2526 : Index := Scalar.indexCast arg10
  ![1, 32, v2526.toNat]
def k0_mult18 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1107 : BitVec 32 := 128#32
  let v2550 : BitVec 32 := Scalar.muli arg10 c128_i32_1107
  v2550
def k0_off40 (k0_t1 : Fin k0_t1_loop.trips) : Fin 3 → Nat :=
  let c1_1108 : Index := 1#32
  let c32_1109 : Index := 32#32
  let c0_i32 : BitVec 32 := 0#32
  let c1_i32 : BitVec 32 := 1#32
  let arg10 : BitVec 32 := Scf.iv c0_i32 c1_i32 k0_t1
  let c128_i32_1107 : BitVec 32 := 128#32
  let v2550 : BitVec 32 := Scalar.muli arg10 c128_i32_1107
  let v2551 : BitVec 32 := v2550
  let v2552 : Index := Scalar.indexCast v2551
  ![1, 32, v2552.toNat]
def k0_off41 (k0_t1 : Fin k0_t1_loop.trips) : Fin 3 → Nat :=
  let c1_1115 : Index := 1#32
  let c64_1116 : Index := 64#32
  let c0_i32 : BitVec 32 := 0#32
  let c1_i32 : BitVec 32 := 1#32
  let arg10 : BitVec 32 := Scf.iv c0_i32 c1_i32 k0_t1
  let v2576 : Index := Scalar.indexCast arg10
  ![1, 64, v2576.toNat]
def k0_mult19 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1124 : BitVec 32 := 128#32
  let v2600 : BitVec 32 := Scalar.muli arg10 c128_i32_1124
  v2600
def k0_off42 (k0_t1 : Fin k0_t1_loop.trips) : Fin 3 → Nat :=
  let c1_1125 : Index := 1#32
  let c64_1126 : Index := 64#32
  let c0_i32 : BitVec 32 := 0#32
  let c1_i32 : BitVec 32 := 1#32
  let arg10 : BitVec 32 := Scf.iv c0_i32 c1_i32 k0_t1
  let c128_i32_1124 : BitVec 32 := 128#32
  let v2600 : BitVec 32 := Scalar.muli arg10 c128_i32_1124
  let v2601 : BitVec 32 := v2600
  let v2602 : Index := Scalar.indexCast v2601
  ![1, 64, v2602.toNat]
def k0_off43 (k0_t1 : Fin k0_t1_loop.trips) : Fin 3 → Nat :=
  let c1_1132 : Index := 1#32
  let c96_1133 : Index := 96#32
  let c0_i32 : BitVec 32 := 0#32
  let c1_i32 : BitVec 32 := 1#32
  let arg10 : BitVec 32 := Scf.iv c0_i32 c1_i32 k0_t1
  let v2626 : Index := Scalar.indexCast arg10
  ![1, 96, v2626.toNat]
def k0_mult20 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1141 : BitVec 32 := 128#32
  let v2650 : BitVec 32 := Scalar.muli arg10 c128_i32_1141
  v2650
def k0_off44 (k0_t1 : Fin k0_t1_loop.trips) : Fin 3 → Nat :=
  let c1_1142 : Index := 1#32
  let c96_1143 : Index := 96#32
  let c0_i32 : BitVec 32 := 0#32
  let c1_i32 : BitVec 32 := 1#32
  let arg10 : BitVec 32 := Scf.iv c0_i32 c1_i32 k0_t1
  let c128_i32_1141 : BitVec 32 := 128#32
  let v2650 : BitVec 32 := Scalar.muli arg10 c128_i32_1141
  let v2651 : BitVec 32 := v2650
  let v2652 : Index := Scalar.indexCast v2651
  ![1, 96, v2652.toNat]
def k0_off45 (k0_t1 : Fin k0_t1_loop.trips) : Fin 3 → Nat :=
  let c1_1149 : Index := 1#32
  let c128_1150 : Index := 128#32
  let c0_i32 : BitVec 32 := 0#32
  let c1_i32 : BitVec 32 := 1#32
  let arg10 : BitVec 32 := Scf.iv c0_i32 c1_i32 k0_t1
  let v2676 : Index := Scalar.indexCast arg10
  ![1, 128, v2676.toNat]
def k0_mult21 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1158 : BitVec 32 := 128#32
  let v2700 : BitVec 32 := Scalar.muli arg10 c128_i32_1158
  v2700
def k0_off46 (k0_t1 : Fin k0_t1_loop.trips) : Fin 3 → Nat :=
  let c1_1159 : Index := 1#32
  let c128_1160 : Index := 128#32
  let c0_i32 : BitVec 32 := 0#32
  let c1_i32 : BitVec 32 := 1#32
  let arg10 : BitVec 32 := Scf.iv c0_i32 c1_i32 k0_t1
  let c128_i32_1158 : BitVec 32 := 128#32
  let v2700 : BitVec 32 := Scalar.muli arg10 c128_i32_1158
  let v2701 : BitVec 32 := v2700
  let v2702 : Index := Scalar.indexCast v2701
  ![1, 128, v2702.toNat]
def k0_off47 (k0_t1 : Fin k0_t1_loop.trips) : Fin 3 → Nat :=
  let c1_1166 : Index := 1#32
  let c160_1167 : Index := 160#32
  let c0_i32 : BitVec 32 := 0#32
  let c1_i32 : BitVec 32 := 1#32
  let arg10 : BitVec 32 := Scf.iv c0_i32 c1_i32 k0_t1
  let v2726 : Index := Scalar.indexCast arg10
  ![1, 160, v2726.toNat]
def k0_mult22 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1175 : BitVec 32 := 128#32
  let v2750 : BitVec 32 := Scalar.muli arg10 c128_i32_1175
  v2750
def k0_off48 (k0_t1 : Fin k0_t1_loop.trips) : Fin 3 → Nat :=
  let c1_1176 : Index := 1#32
  let c160_1177 : Index := 160#32
  let c0_i32 : BitVec 32 := 0#32
  let c1_i32 : BitVec 32 := 1#32
  let arg10 : BitVec 32 := Scf.iv c0_i32 c1_i32 k0_t1
  let c128_i32_1175 : BitVec 32 := 128#32
  let v2750 : BitVec 32 := Scalar.muli arg10 c128_i32_1175
  let v2751 : BitVec 32 := v2750
  let v2752 : Index := Scalar.indexCast v2751
  ![1, 160, v2752.toNat]
def k0_off49 (k0_t1 : Fin k0_t1_loop.trips) : Fin 3 → Nat :=
  let c1_1183 : Index := 1#32
  let c192_1184 : Index := 192#32
  let c0_i32 : BitVec 32 := 0#32
  let c1_i32 : BitVec 32 := 1#32
  let arg10 : BitVec 32 := Scf.iv c0_i32 c1_i32 k0_t1
  let v2776 : Index := Scalar.indexCast arg10
  ![1, 192, v2776.toNat]
def k0_mult23 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1192 : BitVec 32 := 128#32
  let v2800 : BitVec 32 := Scalar.muli arg10 c128_i32_1192
  v2800
def k0_off50 (k0_t1 : Fin k0_t1_loop.trips) : Fin 3 → Nat :=
  let c1_1193 : Index := 1#32
  let c192_1194 : Index := 192#32
  let c0_i32 : BitVec 32 := 0#32
  let c1_i32 : BitVec 32 := 1#32
  let arg10 : BitVec 32 := Scf.iv c0_i32 c1_i32 k0_t1
  let c128_i32_1192 : BitVec 32 := 128#32
  let v2800 : BitVec 32 := Scalar.muli arg10 c128_i32_1192
  let v2801 : BitVec 32 := v2800
  let v2802 : Index := Scalar.indexCast v2801
  ![1, 192, v2802.toNat]
def k0_off51 (k0_t1 : Fin k0_t1_loop.trips) : Fin 3 → Nat :=
  let c1_1200 : Index := 1#32
  let c224_1201 : Index := 224#32
  let c0_i32 : BitVec 32 := 0#32
  let c1_i32 : BitVec 32 := 1#32
  let arg10 : BitVec 32 := Scf.iv c0_i32 c1_i32 k0_t1
  let v2826 : Index := Scalar.indexCast arg10
  ![1, 224, v2826.toNat]
def k0_mult24 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1209 : BitVec 32 := 128#32
  let v2850 : BitVec 32 := Scalar.muli arg10 c128_i32_1209
  v2850
def k0_off52 (k0_t1 : Fin k0_t1_loop.trips) : Fin 3 → Nat :=
  let c1_1210 : Index := 1#32
  let c224_1211 : Index := 224#32
  let c0_i32 : BitVec 32 := 0#32
  let c1_i32 : BitVec 32 := 1#32
  let arg10 : BitVec 32 := Scf.iv c0_i32 c1_i32 k0_t1
  let c128_i32_1209 : BitVec 32 := 128#32
  let v2850 : BitVec 32 := Scalar.muli arg10 c128_i32_1209
  let v2851 : BitVec 32 := v2850
  let v2852 : Index := Scalar.indexCast v2851
  ![1, 224, v2852.toNat]
def k0_off53 (k0_t1 : Fin k0_t1_loop.trips) : Fin 3 → Nat :=
  let c1_1217 : Index := 1#32
  let c256_1218 : Index := 256#32
  let c0_i32 : BitVec 32 := 0#32
  let c1_i32 : BitVec 32 := 1#32
  let arg10 : BitVec 32 := Scf.iv c0_i32 c1_i32 k0_t1
  let v2876 : Index := Scalar.indexCast arg10
  ![1, 256, v2876.toNat]
def k0_mult25 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1226 : BitVec 32 := 128#32
  let v2900 : BitVec 32 := Scalar.muli arg10 c128_i32_1226
  v2900
def k0_off54 (k0_t1 : Fin k0_t1_loop.trips) : Fin 3 → Nat :=
  let c1_1227 : Index := 1#32
  let c256_1228 : Index := 256#32
  let c0_i32 : BitVec 32 := 0#32
  let c1_i32 : BitVec 32 := 1#32
  let arg10 : BitVec 32 := Scf.iv c0_i32 c1_i32 k0_t1
  let c128_i32_1226 : BitVec 32 := 128#32
  let v2900 : BitVec 32 := Scalar.muli arg10 c128_i32_1226
  let v2901 : BitVec 32 := v2900
  let v2902 : Index := Scalar.indexCast v2901
  ![1, 256, v2902.toNat]
def k0_off55 (k0_t1 : Fin k0_t1_loop.trips) : Fin 3 → Nat :=
  let c1_1234 : Index := 1#32
  let c288_1235 : Index := 288#32
  let c0_i32 : BitVec 32 := 0#32
  let c1_i32 : BitVec 32 := 1#32
  let arg10 : BitVec 32 := Scf.iv c0_i32 c1_i32 k0_t1
  let v2926 : Index := Scalar.indexCast arg10
  ![1, 288, v2926.toNat]
def k0_mult26 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1243 : BitVec 32 := 128#32
  let v2950 : BitVec 32 := Scalar.muli arg10 c128_i32_1243
  v2950
def k0_off56 (k0_t1 : Fin k0_t1_loop.trips) : Fin 3 → Nat :=
  let c1_1244 : Index := 1#32
  let c288_1245 : Index := 288#32
  let c0_i32 : BitVec 32 := 0#32
  let c1_i32 : BitVec 32 := 1#32
  let arg10 : BitVec 32 := Scf.iv c0_i32 c1_i32 k0_t1
  let c128_i32_1243 : BitVec 32 := 128#32
  let v2950 : BitVec 32 := Scalar.muli arg10 c128_i32_1243
  let v2951 : BitVec 32 := v2950
  let v2952 : Index := Scalar.indexCast v2951
  ![1, 288, v2952.toNat]
def k0_off57 (k0_t1 : Fin k0_t1_loop.trips) : Fin 3 → Nat :=
  let c1_1251 : Index := 1#32
  let c320_1252 : Index := 320#32
  let c0_i32 : BitVec 32 := 0#32
  let c1_i32 : BitVec 32 := 1#32
  let arg10 : BitVec 32 := Scf.iv c0_i32 c1_i32 k0_t1
  let v2976 : Index := Scalar.indexCast arg10
  ![1, 320, v2976.toNat]
def k0_mult27 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1260 : BitVec 32 := 128#32
  let v3000 : BitVec 32 := Scalar.muli arg10 c128_i32_1260
  v3000
def k0_off58 (k0_t1 : Fin k0_t1_loop.trips) : Fin 3 → Nat :=
  let c1_1261 : Index := 1#32
  let c320_1262 : Index := 320#32
  let c0_i32 : BitVec 32 := 0#32
  let c1_i32 : BitVec 32 := 1#32
  let arg10 : BitVec 32 := Scf.iv c0_i32 c1_i32 k0_t1
  let c128_i32_1260 : BitVec 32 := 128#32
  let v3000 : BitVec 32 := Scalar.muli arg10 c128_i32_1260
  let v3001 : BitVec 32 := v3000
  let v3002 : Index := Scalar.indexCast v3001
  ![1, 320, v3002.toNat]
def k0_off59 (k0_t1 : Fin k0_t1_loop.trips) : Fin 3 → Nat :=
  let c1_1268 : Index := 1#32
  let c352_1269 : Index := 352#32
  let c0_i32 : BitVec 32 := 0#32
  let c1_i32 : BitVec 32 := 1#32
  let arg10 : BitVec 32 := Scf.iv c0_i32 c1_i32 k0_t1
  let v3026 : Index := Scalar.indexCast arg10
  ![1, 352, v3026.toNat]
def k0_mult28 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1277 : BitVec 32 := 128#32
  let v3050 : BitVec 32 := Scalar.muli arg10 c128_i32_1277
  v3050
def k0_off60 (k0_t1 : Fin k0_t1_loop.trips) : Fin 3 → Nat :=
  let c1_1278 : Index := 1#32
  let c352_1279 : Index := 352#32
  let c0_i32 : BitVec 32 := 0#32
  let c1_i32 : BitVec 32 := 1#32
  let arg10 : BitVec 32 := Scf.iv c0_i32 c1_i32 k0_t1
  let c128_i32_1277 : BitVec 32 := 128#32
  let v3050 : BitVec 32 := Scalar.muli arg10 c128_i32_1277
  let v3051 : BitVec 32 := v3050
  let v3052 : Index := Scalar.indexCast v3051
  ![1, 352, v3052.toNat]
def k0_off61 (k0_t1 : Fin k0_t1_loop.trips) : Fin 3 → Nat :=
  let c1_1285 : Index := 1#32
  let c384_1286 : Index := 384#32
  let c0_i32 : BitVec 32 := 0#32
  let c1_i32 : BitVec 32 := 1#32
  let arg10 : BitVec 32 := Scf.iv c0_i32 c1_i32 k0_t1
  let v3076 : Index := Scalar.indexCast arg10
  ![1, 384, v3076.toNat]
def k0_mult29 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1294 : BitVec 32 := 128#32
  let v3100 : BitVec 32 := Scalar.muli arg10 c128_i32_1294
  v3100
def k0_off62 (k0_t1 : Fin k0_t1_loop.trips) : Fin 3 → Nat :=
  let c1_1295 : Index := 1#32
  let c384_1296 : Index := 384#32
  let c0_i32 : BitVec 32 := 0#32
  let c1_i32 : BitVec 32 := 1#32
  let arg10 : BitVec 32 := Scf.iv c0_i32 c1_i32 k0_t1
  let c128_i32_1294 : BitVec 32 := 128#32
  let v3100 : BitVec 32 := Scalar.muli arg10 c128_i32_1294
  let v3101 : BitVec 32 := v3100
  let v3102 : Index := Scalar.indexCast v3101
  ![1, 384, v3102.toNat]
def k0_off63 (k0_t1 : Fin k0_t1_loop.trips) : Fin 3 → Nat :=
  let c1_1302 : Index := 1#32
  let c416_1303 : Index := 416#32
  let c0_i32 : BitVec 32 := 0#32
  let c1_i32 : BitVec 32 := 1#32
  let arg10 : BitVec 32 := Scf.iv c0_i32 c1_i32 k0_t1
  let v3126 : Index := Scalar.indexCast arg10
  ![1, 416, v3126.toNat]
def k0_mult30 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1311 : BitVec 32 := 128#32
  let v3150 : BitVec 32 := Scalar.muli arg10 c128_i32_1311
  v3150
def k0_off64 (k0_t1 : Fin k0_t1_loop.trips) : Fin 3 → Nat :=
  let c1_1312 : Index := 1#32
  let c416_1313 : Index := 416#32
  let c0_i32 : BitVec 32 := 0#32
  let c1_i32 : BitVec 32 := 1#32
  let arg10 : BitVec 32 := Scf.iv c0_i32 c1_i32 k0_t1
  let c128_i32_1311 : BitVec 32 := 128#32
  let v3150 : BitVec 32 := Scalar.muli arg10 c128_i32_1311
  let v3151 : BitVec 32 := v3150
  let v3152 : Index := Scalar.indexCast v3151
  ![1, 416, v3152.toNat]
def k0_off65 (k0_t1 : Fin k0_t1_loop.trips) : Fin 3 → Nat :=
  let c1_1319 : Index := 1#32
  let c448_1320 : Index := 448#32
  let c0_i32 : BitVec 32 := 0#32
  let c1_i32 : BitVec 32 := 1#32
  let arg10 : BitVec 32 := Scf.iv c0_i32 c1_i32 k0_t1
  let v3176 : Index := Scalar.indexCast arg10
  ![1, 448, v3176.toNat]
def k0_mult31 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1328 : BitVec 32 := 128#32
  let v3200 : BitVec 32 := Scalar.muli arg10 c128_i32_1328
  v3200
def k0_off66 (k0_t1 : Fin k0_t1_loop.trips) : Fin 3 → Nat :=
  let c1_1329 : Index := 1#32
  let c448_1330 : Index := 448#32
  let c0_i32 : BitVec 32 := 0#32
  let c1_i32 : BitVec 32 := 1#32
  let arg10 : BitVec 32 := Scf.iv c0_i32 c1_i32 k0_t1
  let c128_i32_1328 : BitVec 32 := 128#32
  let v3200 : BitVec 32 := Scalar.muli arg10 c128_i32_1328
  let v3201 : BitVec 32 := v3200
  let v3202 : Index := Scalar.indexCast v3201
  ![1, 448, v3202.toNat]
def k0_off67 (k0_t1 : Fin k0_t1_loop.trips) : Fin 3 → Nat :=
  let c1_1336 : Index := 1#32
  let c480_1337 : Index := 480#32
  let c0_i32 : BitVec 32 := 0#32
  let c1_i32 : BitVec 32 := 1#32
  let arg10 : BitVec 32 := Scf.iv c0_i32 c1_i32 k0_t1
  let v3226 : Index := Scalar.indexCast arg10
  ![1, 480, v3226.toNat]
def k0_mult32 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_1345 : BitVec 32 := 128#32
  let v3250 : BitVec 32 := Scalar.muli arg10 c128_i32_1345
  v3250
def k0_off68 (k0_t1 : Fin k0_t1_loop.trips) : Fin 3 → Nat :=
  let c1_1346 : Index := 1#32
  let c480_1347 : Index := 480#32
  let c0_i32 : BitVec 32 := 0#32
  let c1_i32 : BitVec 32 := 1#32
  let arg10 : BitVec 32 := Scf.iv c0_i32 c1_i32 k0_t1
  let c128_i32_1345 : BitVec 32 := 128#32
  let v3250 : BitVec 32 := Scalar.muli arg10 c128_i32_1345
  let v3251 : BitVec 32 := v3250
  let v3252 : Index := Scalar.indexCast v3251
  ![1, 480, v3252.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x2x1280x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x2816 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S22x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x1280 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "c_gate" => some (((Real.sqrt (2 * Real.pi⁻¹)) * (1125899906842624 / 370650180020949) : ℝ) : EReal)
  | "gate_k" => some ((370650180020949 / 1125899906842624 : ℝ) : EReal)
  | "inv448" => some ((1 / 448 : ℝ) : EReal)
  | "log2e" => some (((Real.log 2)⁻¹ : ℝ) : EReal)
  | "up_k" => some ((562949953421312 / 370650180020949 : ℝ) : EReal)
  | _ => none
-- ==== ReferenceIdeal.lean ====
abbrev S2x8192x1280 : Shape := ⟨3, ![2, 8192, 1280]⟩
abbrev S1280x22x2x128 : Shape := ⟨4, ![1280, 22, 2, 128]⟩
abbrev S22x2x128 : Shape := ⟨3, ![22, 2, 128]⟩
abbrev S16384x1280 : Shape := ⟨2, ![16384, 1280]⟩
abbrev S1280x22x1x128 : Shape := ⟨4, ![1280, 22, 1, 128]⟩
abbrev S1280x22x128 : Shape := ⟨3, ![1280, 22, 128]⟩
abbrev S1280x2816 : Shape := ⟨2, ![1280, 2816]⟩
abbrev S22x1x128 : Shape := ⟨3, ![22, 1, 128]⟩
abbrev S22x128 : Shape := ⟨2, ![22, 128]⟩
abbrev S1x2816 : Shape := ⟨2, ![1, 2816]⟩
abbrev S2x8192x2816 : Shape := ⟨3, ![2, 8192, 2816]⟩
abbrev S22x2x8192 : Shape := ⟨3, ![22, 2, 8192]⟩
abbrev S2x1x8192 : Shape := ⟨3, ![2, 1, 8192]⟩
abbrev S16384 : Shape := ⟨1, ![16384]⟩
abbrev S16384x1 : Shape := ⟨2, ![16384, 1]⟩
abbrev S1x16384 : Shape := ⟨2, ![1, 16384]⟩
abbrev S16384x2816 : Shape := ⟨2, ![16384, 2816]⟩
abbrev S16384x22x128 : Shape := ⟨3, ![16384, 22, 128]⟩
abbrev S16384x1x1 : Shape := ⟨3, ![16384, 1, 1]⟩
abbrev S16384x22 : Shape := ⟨2, ![16384, 22]⟩
abbrev S16384x22x1 : Shape := ⟨3, ![16384, 22, 1]⟩
abbrev S22x16384 : Shape := ⟨2, ![22, 16384]⟩

abbrev nBuf : Space → Nat
  | .hbm => 20
  | .vmem => 9
  | .smem => 0
  | _ => 0

abbrev bufTy : (tb : Table) → Fin (tcTables nBuf tb) → BufTy
  | .hbm, ⟨0, _⟩ => ⟨S2x8192x1280, .bf16⟩
  | .hbm, ⟨1, _⟩ => ⟨S1280x22x2x128, .fp8e4m3⟩
  | .hbm, ⟨2, _⟩ => ⟨S22x2x128, .f32⟩
  | .hbm, ⟨3, _⟩ => ⟨S16384x1280, .bf16⟩
  | .hbm, ⟨4, _⟩ => ⟨S1280x22x1x128, .fp8e4m3⟩
  | .hbm, ⟨5, _⟩ => ⟨S1280x22x128, .fp8e4m3⟩
  | .hbm, ⟨6, _⟩ => ⟨S1280x2816, .fp8e4m3⟩
  | .hbm, ⟨7, _⟩ => ⟨S1280x22x1x128, .fp8e4m3⟩
  | .hbm, ⟨8, _⟩ => ⟨S1280x22x128, .fp8e4m3⟩
  | .hbm, ⟨9, _⟩ => ⟨S1280x2816, .fp8e4m3⟩
  | .hbm, ⟨10, _⟩ => ⟨S22x1x128, .f32⟩
  | .hbm, ⟨11, _⟩ => ⟨S22x128, .f32⟩
  | .hbm, ⟨12, _⟩ => ⟨S1x2816, .f32⟩
  | .hbm, ⟨13, _⟩ => ⟨S22x1x128, .f32⟩
  | .hbm, ⟨14, _⟩ => ⟨S22x128, .f32⟩
  | .hbm, ⟨15, _⟩ => ⟨S1x2816, .f32⟩
  | .hbm, ⟨16, _⟩ => ⟨S2x8192x2816, .fp8e4m3⟩
  | .hbm, ⟨17, _⟩ => ⟨S22x2x8192, .f32⟩
  | .hbm, ⟨18, _⟩ => ⟨S2x8192x1280, .fp8e4m3⟩
  | .hbm, ⟨19, _⟩ => ⟨S2x1x8192, .f32⟩
  | .local _ .vmem, ⟨0, _⟩ => ⟨S16384x1280, .bf16⟩
  | .local _ .vmem, ⟨1, _⟩ => ⟨S1280x2816, .fp8e4m3⟩
  | .local _ .vmem, ⟨2, _⟩ => ⟨S1280x2816, .fp8e4m3⟩
  | .local _ .vmem, ⟨3, _⟩ => ⟨S1x2816, .f32⟩
  | .local _ .vmem, ⟨4, _⟩ => ⟨S1x2816, .f32⟩
  | .local _ .vmem, ⟨5, _⟩ => ⟨S2x8192x2816, .fp8e4m3⟩
  | .local _ .vmem, ⟨6, _⟩ => ⟨S22x2x8192, .f32⟩
  | .local _ .vmem, ⟨7, _⟩ => ⟨S2x8192x1280, .fp8e4m3⟩
  | .local _ .vmem, ⟨8, _⟩ => ⟨S2x1x8192, .f32⟩
  | _, _ => ⟨S2x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev main_v13_2 : Ref sig .tc := ⟨.hbm, 18, rfl⟩
abbrev main_v13_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "cubic" => some (((50920498444263195832106125525075868230730349 / 1427247692705959881058285969449495136382746624) * (Real.sqrt (2 * Real.pi⁻¹))⁻¹ : ℝ) : EReal)
  | "inv448" => some ((1 / 448 : ℝ) : EReal)
  | "log2e" => some (((Real.log 2)⁻¹ : ℝ) : EReal)
  | "sqrt_2_pi" => some ((Real.sqrt (2 * Real.pi⁻¹) : ℝ) : EReal)
  | _ => none

abbrev grid0 : Pipeline.Grid := .none

abbrev stage0_0 : Fin 1 → Memref sig .tc .vmem S16384x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x2816 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22x2x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x1280 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/- The scalar mathematics of the two programs over the extended reals: the power-of-two quantiser as each of them writes it,
   the gated unit as each of them writes it, and the equations between the two spellings. -/
module

public import Idealize.ShloMosaic.PureOps.Ideal
public import Idealize.ShloMosaic.PureOps.Ideal.Laws
public import Idealize.ShloMosaic.Lib.IdealHost

@[expose] public section

noncomputable section

namespace Cert.Spec

open Idealize.ShloMosaic

/-- `1 / 448`. -/
def c448 : EReal := ((1 / 448 : ℝ) : EReal)
/-- `1 / log 2`. -/
def lg : EReal := (((Real.log 2)⁻¹ : ℝ) : EReal)
/-- The kernel's factor on the gate. -/
def gk : EReal := ((370650180020949 / 1125899906842624 : ℝ) : EReal)
/-- The kernel's factor on the up projection. -/
def uk : EReal := ((562949953421312 / 370650180020949 : ℝ) : EReal)
/-- The kernel's linear coefficient inside `tanh`. -/
def cg : EReal := (((Real.sqrt (2 * Real.pi⁻¹)) * (1125899906842624 / 370650180020949) : ℝ) : EReal)
/-- `√(2 / π)`. -/
def s2p : EReal := ((Real.sqrt (2 * Real.pi⁻¹) : ℝ) : EReal)
/-- The reference's cubic coefficient. -/
def cub : EReal := (((50920498444263195832106125525075868230730349 / 1427247692705959881058285969449495136382746624) * (Real.sqrt (2 * Real.pi⁻¹))⁻¹ : ℝ) : EReal)
/-- `-448`, `448`, `-1`, `-127`, `1 / 2` and the start of a maximum, as their bit patterns. -/
def lo : EReal := Ideal.ofBits .f32 0xC3E00000#32
def hi : EReal := Ideal.ofBits .f32 0x43E00000#32
def mone : EReal := Ideal.ofBits .f32 0xBF800000#32
def m127 : EReal := Ideal.ofBits .f32 0xC2FE0000#32
def half : EReal := Ideal.ofBits .f32 0x3F000000#32
def ninf : EReal := Ideal.ofBits .f32 0xFF800000#32

/-- Clip to the range of the format. -/
def clip (v : EReal) : EReal := min hi (max lo v)
/-- The largest magnitude of a row. -/
def amax {n : Nat} (f : Fin n → EReal) : EReal := Finset.univ.fold max ninf (fun k => max (f k) (-(f k)))
/-- The floor of the base-two logarithm of `a / 448`. -/
def lexp (a : EReal) : EReal := Ideal.liftRound Int.floor (Ideal.log (a * c448) * lg)

/-- The reference's exponent of a row with largest magnitude `a`. -/
def rExp (a : EReal) : EReal := if a = 0 then 0 else lexp a + 1
/-- The reference's scale; `e` is the scale of a row that vanishes. -/
def rScale (e a : EReal) : EReal := if a = 0 then e else Ideal.exp2 (rExp a)
/-- The reference's code of the entry `v`. -/
def rCode (a v : EReal) : EReal := clip (v * Ideal.exp2 (0 - rExp a))

/-- The kernel's exponent. -/
def kExp (a : EReal) : EReal := if a * c448 = 0 then m127 else lexp a
/-- The kernel's scale. -/
def kScale (a : EReal) : EReal := if a * c448 = 0 then 1 else Ideal.exp2 (kExp a + 1)
/-- The kernel's code of an entry of `x`. -/
def kxCode (a v : EReal) : EReal := clip (v * Ideal.div 1 (kScale a))
/-- The kernel's code of an entry of the hidden array. -/
def khCode (a v : EReal) : EReal := clip (v * Ideal.exp2 (mone - kExp a))

/-- The kernel's gated unit without the row's scale: `p`, `q` the two products, `s` the scale, `u`, `v` the column scales. -/
def kGate (s p q u v : EReal) : EReal :=
  (p * (u * gk) * s + p * (u * gk) * s * Ideal.tanh (p * (u * gk) * s * (cg + p * (u * gk) * s * (p * (u * gk) * s)))) * (q * (v * uk))
/-- The reference's gated unit. -/
def rGate (s p q u v : EReal) : EReal :=
  half * (p * s * u + p * s * u * Ideal.tanh (s2p * (p * s * u + cub * (p * s * u * (p * s * u) * (p * s * u))))) * (q * s * v)

/-- The pattern of `-1`. -/
theorem mone_eq : mone = ((-1 : ℝ) : EReal) := by
  simp [mone, Ideal.ofBits, Ideal.ieee, -EReal.coe_mul, -EReal.coe_neg]; norm_num
/-- The pattern of `1 / 2`. -/
theorem half_eq : half = ((1 / 2 : ℝ) : EReal) := by
  simp [half, Ideal.ofBits, Ideal.ieee, -EReal.coe_mul, -EReal.coe_neg]; norm_num
/-- The pattern of `-448`. -/
theorem lo_eq : lo = ((-448 : ℝ) : EReal) := by
  simp [lo, Ideal.ofBits, Ideal.ieee, -EReal.coe_mul, -EReal.coe_neg]; norm_num
/-- The pattern of `448`. -/
theorem hi_eq : hi = ((448 : ℝ) : EReal) := by
  simp [hi, Ideal.ofBits, Ideal.ieee, -EReal.coe_mul, -EReal.coe_neg]; norm_num
/-- The start of a maximum is the least extended real. -/
theorem ninf_eq : ninf = ⊥ := by
  simp [ninf, Ideal.ofBits, Ideal.ieee]
/-- `-448` written in the narrower format. -/
theorem lo_bf16 : Ideal.ofBits .bf16 0xC3E0#16 = lo := by
  rw [lo_eq]; simp [Ideal.ofBits, Ideal.ieee, -EReal.coe_mul, -EReal.coe_neg]; norm_num
/-- `448` written in the narrower format. -/
theorem hi_bf16 : Ideal.ofBits .bf16 0x43E0#16 = hi := by
  rw [hi_eq]; simp [Ideal.ofBits, Ideal.ieee, -EReal.coe_mul, -EReal.coe_neg]; norm_num

end Cert.Spec

end
-- ==== Proof.Elem.lean ====
/- Elementwise pieces of the two bodies read at an index, at any shape: each is one of the scalar functions of Spec. -/
module

public import proofs.«01_k».proof.Proof.Spec
public import Idealize.ShloMosaic.Lib.Pointwise

@[expose] public section

noncomputable section

namespace Cert.Elem

open Idealize.ShloMosaic Cert.Spec

variable {s : Shape}

/-- A scalar constant of the body: a bit pattern at `f32`. -/
abbrev bits (b : BitVec 32) : Ideal .f32 := FloatOps.ofBits .f32 b

/-- The floor of the scaled logarithm plus one. -/
theorem lexp1_at (c l : Ideal .f32) (hc : c = c448) (hl : l = lg) (w : FVec Ideal s .f32) (i : s.Idx) :
    addf (floor (mulf (log (mulf w (broadcast s c))) (broadcast s l))) (broadcast s (bits 0x3F800000#32)) i
      = lexp (w i) + 1 := by
  subst hc hl
  pointwise
  rfl

/-- The exponent with zero for a vanishing row. -/
theorem zsel_at (w e : FVec Ideal s .f32) (i : s.Idx) :
    select (cmpf .oeq w (broadcast s (bits 0x00000000#32))) (broadcast s (bits 0x00000000#32)) e i
      = if w i = 0 then 0 else e i := by
  pointwise

/-- The scale with a chosen value for a vanishing row. -/
theorem ssel_at (w z e : FVec Ideal s .f32) (i : s.Idx) :
    select (cmpf .oeq w (broadcast s (bits 0x00000000#32))) z (exp2 e) i
      = if w i = 0 then z i else Ideal.exp2 (e i) := by
  pointwise
  rfl

/-- The power of the negated exponent. -/
theorem nexp_at (w : FVec Ideal s .f32) (i : s.Idx) :
    exp2 (subf (broadcast s (bits 0x00000000#32)) w) i = Ideal.exp2 (0 - w i) := by
  pointwise
  rfl

/-- A product clipped to the format's range. -/
theorem clip_at (u w : FVec Ideal s .f32) (i : s.Idx) :
    minimumf (broadcast s (bits 0x43E00000#32)) (maximumf (broadcast s (bits 0xC3E00000#32)) (mulf u w)) i
      = clip (u i * w i) := by
  pointwise
  rfl

/-- The reference's gated unit of a gate and an up projection. -/
theorem gelu_at (k q : Ideal .f32) (hk : k = cub) (hq : q = s2p) (y p : FVec Ideal s .f32) (i : s.Idx) :
    mulf (mulf (broadcast s (bits 0x3F000000#32))
      (addf y (mulf y (tanh (mulf (broadcast s q) (addf y (mulf (broadcast s k) (mulf (mulf y y) y)))))))) p i
      = half * (y i + y i * Ideal.tanh (s2p * (y i + cub * (y i * y i * y i)))) * p i := by
  subst hk hq
  pointwise
  rfl

/-- The magnitudes. -/
theorem abs_at (w : FVec Ideal s .f32) (i : s.Idx) : absf w i = max (w i) (-(w i)) := rfl

end Cert.Elem

end
-- ==== Proof.Chunk.lean ====
/- What one chunk of 32 rows of the kernel computes, read at an index, for any rows and any group. -/
module

public import proofs.«01_k».proof.Proof.Gen.KernelIdeal.Value
public import proofs.«01_k».proof.Proof.Elem

@[expose] public section

set_option maxRecDepth 16384

noncomputable section

namespace Cert.KernelIdeal.Run

open Cert.KernelIdeal Cert.KernelIdeal.Gen Idealize.ShloMosaic Idealize.ShloMosaic.TcCoe Idealize.SL.Sem Cert.Spec Cert.Elem

/-- The named constants of the kernel. -/
abbrev nInv : Ideal .f32 := Named.named κ "inv448" 0x3B124925#32
abbrev nLog : Ideal .f32 := Named.named κ "log2e" 0x3FB8AA3B#32
abbrev nGate : Ideal .f32 := Named.named κ "gate_k" 0x3EA88D5C#32
abbrev nUp : Ideal .f32 := Named.named κ "up_k" 0x3FC2689C#32
abbrev nC : Ideal .f32 := Named.named κ "c_gate" 0x401B1D9B#32

/-- The named `1 / 448` of the body is that of Spec. -/
theorem inv448_eq : nInv = c448 := rfl
/-- The named `1 / log 2` of the body is that of Spec. -/
theorem log2e_eq : nLog = lg := rfl
/-- The body's factor on the gate is that of Spec. -/
theorem gate_k_eq : nGate = gk := rfl
/-- The body's factor on the up projection is that of Spec. -/
theorem up_k_eq : nUp = uk := rfl
/-- The body's linear coefficient is that of Spec. -/
theorem c_gate_eq : nC = cg := rfl

section
variable {s : Shape}

/-- The exponent of the largest magnitudes `w`. -/
abbrev expV (w : FVec Ideal s .f32) : FVec Ideal s .f32 :=
  select (cmpf .oeq (mulf w (broadcast s nInv)) (broadcast s (bits 0x00000000#32))) (broadcast s (bits 0xC2FE0000#32))
    (floor (mulf (log (mulf w (broadcast s nInv))) (broadcast s nLog)))

/-- The exponent at an index. -/
theorem exp_at (w : FVec Ideal s .f32) (i : s.Idx) : expV w i = kExp (w i) := by
  have h : ∀ c l : Ideal .f32, c = c448 → l = lg →
      select (cmpf .oeq (mulf w (broadcast s c)) (broadcast s (bits 0x00000000#32))) (broadcast s (bits 0xC2FE0000#32))
        (floor (mulf (log (mulf w (broadcast s c))) (broadcast s l))) i = kExp (w i) := by
    rintro c l rfl rfl
    pointwise
    rfl
  exact h _ _ inv448_eq log2e_eq

/-- The scale of the largest magnitudes `w`. -/
abbrev scaleV (w : FVec Ideal s .f32) : FVec Ideal s .f32 :=
  select (cmpf .oeq (mulf w (broadcast s nInv)) (broadcast s (bits 0x00000000#32))) (broadcast s (bits 0x3F800000#32))
    (exp2 (addf (expV w) (broadcast s (bits 0x3F800000#32))))

/-- The scale at an index. -/
theorem scale_at (w : FVec Ideal s .f32) (i : s.Idx) : scaleV w i = kScale (w i) := by
  have h : ∀ (c : Ideal .f32) (e : FVec Ideal s .f32), c = c448 →
      select (cmpf .oeq (mulf w (broadcast s c)) (broadcast s (bits 0x00000000#32))) (broadcast s (bits 0x3F800000#32))
        (exp2 (addf e (broadcast s (bits 0x3F800000#32)))) i = if w i * c448 = 0 then 1 else Ideal.exp2 (e i + 1) := by
    rintro c e rfl
    pointwise
    rfl
  rw [show scaleV w i = _ from h _ (expV w) inv448_eq, exp_at]
  rfl

/-- The reciprocal of the scale that a hidden row is multiplied by. -/
theorem inv_at (e : FVec Ideal s .f32) (i : s.Idx) :
    exp2 (subf (broadcast s (bits 0xBF800000#32)) e) i = Ideal.exp2 (mone - e i) := by
  pointwise
  rfl

/-- The gated unit of a gate `a` and an up projection `u`. -/
abbrev gateV (a u : FVec Ideal s .f32) : FVec Ideal s .f32 :=
  mulf (addf a (mulf a (tanh (mulf a (addf (broadcast s nC) (mulf a a)))))) u

/-- The gated unit at an index. -/
theorem gateV_at (a u : FVec Ideal s .f32) (i : s.Idx) :
    gateV a u i = (a i + a i * Ideal.tanh (a i * (cg + a i * a i))) * u i := by
  have h : ∀ c : Ideal .f32, c = cg →
      mulf (addf a (mulf a (tanh (mulf a (addf (broadcast s c) (mulf a a)))))) u i
        = (a i + a i * Ideal.tanh (a i * (cg + a i * a i))) * u i := by
    rintro c rfl
    pointwise
  exact h _ c_gate_eq

/-- A product clipped to the format's range, at `bf16`. -/
theorem clip16_at (u w : FVec Ideal s .bf16) (i : s.Idx) :
    minimumf (broadcast s (Scalar.truncf .bf16 bitsLt_bf16_f32 (bits 0x43E00000#32) : Ideal .bf16))
      (maximumf (broadcast s (Scalar.truncf .bf16 bitsLt_bf16_f32 (bits 0xC3E00000#32) : Ideal .bf16)) (mulf u w)) i
      = clip (u i * w i) := rfl
end

/-! ## A chunk of hidden rows -/

/-- The largest magnitudes of 32 rows. -/
abbrev rowMax (w : FVec Ideal S32x128 .f32) : FVec Ideal S32x1 .f32 :=
  shapeCast S32x1 (multiReduction .maximumf [1] S32 (absf w) 0xFF800000#32 reduces_S32x128_S32 (.inl rfl) rfl) shapeCasts_S32_S32x1

/-- The maximum of a row at its index is the largest magnitude of the row. -/
theorem rowMax_at (w : FVec Ideal S32x128 .f32) (i : Fin 32) : rowMax w (ix2 i 0) = amax fun j => w (ix2 i j) := by
  have h : (shapeCast S32x1 (multiReduction .maximumf [1] S32 (absf w) 0xFF800000#32 reduces_S32x128_S32 (.inl rfl) rfl) shapeCasts_S32_S32x1 : FVec Ideal S32x1 .f32) (ix2 i 0)
      = amax fun j => w (ix2 i j) := by
    pointwise
    rfl
  exact h

/-- The largest magnitudes as they are stored. -/
abbrev amaxV (w : FVec Ideal S32x128 .f32) : FVec Ideal S1x32x1 .f32 := shapeCast S1x32x1 (rowMax w) shapeCasts_S32x1_S1x32x1

/-- A column with a leading unit axis added, at an index. -/
theorem unfold1_at (w : FVec Ideal S32x1 .f32) (i : Fin 32) : shapeCast S1x32x1 w shapeCasts_S32x1_S1x32x1 (ix3 0 i 0) = w (ix2 i 0) := by
  pointwise

/-- The maxima as they are stored, at an index. -/
theorem amaxV_at (w : FVec Ideal S32x128 .f32) (i : Fin 32) : amaxV w (ix3 0 i 0) = amax fun j => w (ix2 i j) :=
  (unfold1_at _ i).trans (rowMax_at w i)

/-- The codes as they are stored. -/
abbrev codeV (w : FVec Ideal S32x128 .f32) : FVec Ideal S1x32x128 .fp8e4m3 :=
  shapeCast S1x32x128 (truncf .fp8e4m3 (minimumf (broadcast S32x128 (bits 0x43E00000#32)) (maximumf (broadcast S32x128 (bits 0xC3E00000#32))
    (mulf w (broadcastTo S32x128 (exp2 (subf (broadcast S32x1 (bits 0xBF800000#32)) (expV (rowMax w)))) broadcasts_S32x1_S32x128)))) bitsLt_fp8e4m3_f32) shapeCasts_S32x128_S1x32x128

/-- A chunk of 128 lanes with a leading unit axis added, at an index. -/
theorem unfold128_at (w : FVec Ideal S32x128 .f32) (i : Fin 32) (j : Fin 128) :
    shapeCast S1x32x128 (truncf .fp8e4m3 w bitsLt_fp8e4m3_f32) shapeCasts_S32x128_S1x32x128 (ix3 0 i j) = w (ix2 i j) := by
  pointwise

/-- A column spread over 128 lanes, at an index. -/
theorem spread_at (w : FVec Ideal S32x1 .f32) (i : Fin 32) (j : Fin 128) :
    broadcastTo S32x128 w broadcasts_S32x1_S32x128 (ix2 i j) = w (ix2 i 0) := by
  pointwise

/-- The codes of a chunk of hidden rows, at an index. -/
theorem codeV_at (w : FVec Ideal S32x128 .f32) (i : Fin 32) (j : Fin 128) :
    codeV w (ix3 0 i j) = khCode (amax fun j => w (ix2 i j)) (w (ix2 i j)) := by
  refine (unfold128_at _ i j).trans ((clip_at w _ (ix2 i j)).trans ?_)
  rw [spread_at, inv_at, exp_at, rowMax_at]
  rfl

/-- A block of 32 rows of 512 lies inside. -/
theorem slice_at {o r : ℕ} (hr : r + 32 ≤ 512) (ho : o + 128 ≤ 256) : S512x256.Slices ![r, o] S32x128 :=
  ⟨rfl, fun a => by fin_cases a; exacts [hr, ho]⟩

/-- The hidden rows `r … r + 31` from the products `A`, the column scales and the rows' scales. -/
abbrev hidV (r : ℕ) (hr : r + 32 ≤ 512) (A : FVec Ideal S512x256 .f32) (wg wu : FVec Ideal S1x128 .f32) (xs : Vec Ideal S1x32x128 .f32) : FVec Ideal S32x128 .f32 :=
  gateV (mulf (mulf (extractStridedSlice S32x128 ![r, 0] A (slice_at hr (by decide))) (broadcastTo S32x128 wg broadcasts_S1x128_S32x128)) (shapeCast S32x128 xs shapeCasts_S1x32x128_S32x128))
    (mulf (extractStridedSlice S32x128 ![r, 128] A (slice_at hr (by decide))) (broadcastTo S32x128 wu broadcasts_S1x128_S32x128))

/-- A chunk of rows of the gate half of the accumulator. -/
theorem slice0_at (r : ℕ) (hr : r + 32 ≤ 512) (A : FVec Ideal S512x256 .f32) (i : Fin 32) (j : Fin 128) :
    extractStridedSlice S32x128 ![r, 0] A (slice_at hr (by decide)) (ix2 i j) = A (ix2 ⟨r + i.val, by omega⟩ ⟨j.val, by omega⟩) :=
  congrArg A (funext fun a => by fin_cases a; exacts [rfl, Fin.ext (Nat.zero_add _)])

/-- A chunk of rows of the up half of the accumulator. -/
theorem slice1_at (r : ℕ) (hr : r + 32 ≤ 512) (A : FVec Ideal S512x256 .f32) (i : Fin 32) (j : Fin 128) :
    extractStridedSlice S32x128 ![r, 128] A (slice_at hr (by decide)) (ix2 i j) = A (ix2 ⟨r + i.val, by omega⟩ ⟨128 + j.val, by omega⟩) :=
  congrArg A (funext fun a => by fin_cases a; exacts [rfl, rfl])

/-- A row spread over 32 rows, at an index. -/
theorem bcast_at (w : FVec Ideal S1x128 .f32) (i : Fin 32) (j : Fin 128) :
    broadcastTo S32x128 w broadcasts_S1x128_S32x128 (ix2 i j) = w (ix2 0 j) := by
  pointwise

/-- A chunk with its leading unit axis dropped, at an index. -/
theorem fold_at (w : FVec Ideal S1x32x128 .f32) (i : Fin 32) (j : Fin 128) :
    shapeCast S32x128 w shapeCasts_S1x32x128_S32x128 (ix2 i j) = w (ix3 0 i j) := by
  pointwise

/-- A chunk of hidden rows at an index is the gated unit of the two products, the row scale and the column scales. -/
theorem hidV_at (r : ℕ) (hr : r + 32 ≤ 512) (A : FVec Ideal S512x256 .f32) (wg wu : FVec Ideal S1x128 .f32) (xs : Vec Ideal S1x32x128 .f32)
    (p q s u v : EReal) (i : Fin 32) (j : Fin 128)
    (hp : A (ix2 ⟨r + i.val, by omega⟩ ⟨j.val, by omega⟩) = p) (hq : A (ix2 ⟨r + i.val, by omega⟩ ⟨128 + j.val, by omega⟩) = q)
    (hs : xs (ix3 0 i j) = s) (hu : wg (ix2 0 j) = u * gk) (hv : wu (ix2 0 j) = v * uk) :
    hidV r hr A wg wu xs (ix2 i j) = kGate s p q u v := by
  refine (gateV_at _ _ _).trans ?_
  have ha : mulf (mulf (extractStridedSlice S32x128 ![r, 0] A (slice_at hr (by decide))) (broadcastTo S32x128 wg broadcasts_S1x128_S32x128)) (shapeCast S32x128 xs shapeCasts_S1x32x128_S32x128) (ix2 i j) = p * (u * gk) * s := by
    show _ * _ * _ = _
    rw [slice0_at r hr, bcast_at, fold_at, hp, hs, hu]
  have hb : mulf (extractStridedSlice S32x128 ![r, 128] A (slice_at hr (by decide))) (broadcastTo S32x128 wu broadcasts_S1x128_S32x128) (ix2 i j) = q * (v * uk) := by
    show _ * _ = _
    rw [slice1_at r hr, bcast_at, hq, hv]
  rw [ha, hb]
  rfl

/-! ## The products -/

/-- The gate's column scales with the kernel's factor. -/
theorem scale3_at (w : FVec Ideal S1x1x128 .f32) (j : Fin 128) : k0_pay3 w (ix2 0 j) = w (ix3 0 0 j) * gk := by
  have h : ∀ c : Ideal .f32, c = gk → mulf (shapeCast S1x128 w shapeCasts_S1x1x128_S1x128 : FVec Ideal S1x128 .f32) (broadcast S1x128 c) (ix2 0 j) = w (ix3 0 0 j) * gk := by
    rintro c rfl
    pointwise
  exact h _ gate_k_eq

/-- The up projection's column scales with the kernel's factor. -/
theorem scale4_at (w : FVec Ideal S1x1x128 .f32) (j : Fin 128) : k0_pay4 w (ix2 0 j) = w (ix3 0 0 j) * uk := by
  have h : ∀ c : Ideal .f32, c = uk → mulf (shapeCast S1x128 w shapeCasts_S1x1x128_S1x128 : FVec Ideal S1x128 .f32) (broadcast S1x128 c) (ix2 0 j) = w (ix3 0 0 j) * uk := by
    rintro c rfl
    pointwise
  exact h _ up_k_eq

/-- The two weight blocks side by side. -/
theorem cat0_at (a b : FVec Ideal S1280x128 .fp8e4m3) (d : Fin 1280) (j : Fin 128) :
    (concatenate S1280x256 1 [⟨S1280x128, a⟩, ⟨S1280x128, b⟩] concatenates_S1280x128_S1280x128_S1280x256_d1 : FVec Ideal S1280x256 .fp8e4m3) (ix2 d ⟨j.val, by omega⟩) = a (ix2 d j) := by
  pointwise

/-- The joined weights at a column of their second half. -/
theorem cat1_at (a b : FVec Ideal S1280x128 .fp8e4m3) (d : Fin 1280) (j : Fin 128) :
    (concatenate S1280x256 1 [⟨S1280x128, a⟩, ⟨S1280x128, b⟩] concatenates_S1280x128_S1280x128_S1280x256_d1 : FVec Ideal S1280x256 .fp8e4m3) (ix2 d ⟨128 + j.val, by omega⟩) = b (ix2 d j) := by
  pointwise

/-- A slab of weights with its unit axes dropped, at an index. -/
theorem wfold_at (a : FVec Ideal S1x1x1280x128 .fp8e4m3) (d : Fin 1280) (j : Fin 128) :
    (shapeCast S1280x128 a shapeCasts_S1x1x1280x128_S1280x128 : FVec Ideal S1280x128 .fp8e4m3) (ix2 d j) = a (ix4 0 0 d j) := by
  pointwise

/-- The product of the codes of one batch with the joined weights, at an index, is a sum over the 1280 features. -/
theorem mm_at (a : FVec Ideal S1x512x1280 .fp8e4m3) (w : FVec Ideal S1280x256 .fp8e4m3) (i : Fin 512) (j : Fin 256) :
    matmul dot_S512x1280_S1280x256_S512x256_1_0_0_1_n_n none (shapeCast S512x1280 a shapeCasts_S1x512x1280_S512x1280 : FVec Ideal S512x1280 .fp8e4m3) w (constant S512x256 .f32 0x00000000#32) (ix2 i j)
      = ∑ d : Fin 1280, a (ix3 0 i d) * w (ix2 d j) := by
  pointwise

/-- The accumulator at a gate column. -/
theorem acc0_at (w0 w1 : Vec Ideal S1x1x1280x128 .fp8e4m3) (a : Vec Ideal S1x512x1280 .fp8e4m3) (i : Fin 512) (j : Fin 128) :
    k0_pay5 w0 w1 a (ix2 i ⟨j.val, by omega⟩) = ∑ d : Fin 1280, a (ix3 0 i d) * w0 (ix4 0 0 d j) := by
  refine (mm_at a (k0_pay2 w0 w1) i _).trans (Finset.sum_congr rfl fun d _ => congrArg (_ * ·) ?_)
  exact (cat0_at _ _ d j).trans (wfold_at w0 d j)

/-- The accumulator at an up column. -/
theorem acc1_at (w0 w1 : Vec Ideal S1x1x1280x128 .fp8e4m3) (a : Vec Ideal S1x512x1280 .fp8e4m3) (i : Fin 512) (j : Fin 128) :
    k0_pay5 w0 w1 a (ix2 i ⟨128 + j.val, by omega⟩) = ∑ d : Fin 1280, a (ix3 0 i d) * w1 (ix4 0 0 d j) := by
  refine (mm_at a (k0_pay2 w0 w1) i _).trans (Finset.sum_congr rfl fun d _ => congrArg (_ * ·) ?_)
  exact (cat1_at _ _ d j).trans (wfold_at w1 d j)

/-! ## A chunk of rows of `x` -/

/-- The 32 rows of a chunk. -/
abbrev rowsV (x : Vec Ideal S1x32x1280 .bf16) : FVec Ideal S32x1280 .bf16 := shapeCast S32x1280 x shapeCasts_S1x32x1280_S32x1280

/-- Their largest magnitudes, on every lane. -/
abbrev xMaxV (y : FVec Ideal S32x1280 .bf16) : FVec Ideal S32x128 .f32 :=
  broadcastTo S32x128 (shapeCast S32x1 (extf .f32 (shapeCast S32x1 (multiReduction .maximumf [1] S32 (absf y) 0xFF80#16 reduces_S32x1280_S32 (.inr rfl) rfl) shapeCasts_S32_S32x1 : FVec Ideal S32x1 .bf16) bitsLt_bf16_f32) shapeCasts_S32x1_S32x1) broadcasts_S32x1_S32x128

/-- The start of a maximum, written in the narrower format. -/
theorem ninf_bf16 : Ideal.ofBits .bf16 0xFF80#16 = ninf := by
  rw [ninf_eq]; simp [Ideal.ofBits, Ideal.ieee]

/-- The maximum of a row of `x`, spread over the lanes. -/
theorem xMaxV_at (y : FVec Ideal S32x1280 .bf16) (i : Fin 32) (l : Fin 128) : xMaxV y (ix2 i l) = amax fun d => y (ix2 i d) := by
  have h : (broadcastTo S32x128 (shapeCast S32x1 (extf .f32 (shapeCast S32x1 (multiReduction .maximumf [1] S32 (absf y) 0xFF80#16 reduces_S32x1280_S32 (.inr rfl) rfl) shapeCasts_S32_S32x1 : FVec Ideal S32x1 .bf16) bitsLt_bf16_f32) shapeCasts_S32x1_S32x1) broadcasts_S32x1_S32x128 : FVec Ideal S32x128 .f32) (ix2 i l)
      = Finset.univ.fold max (Ideal.ofBits .bf16 0xFF80#16) (fun d => max (y (ix2 i d)) (-(y (ix2 i d)))) := by
    pointwise
    rfl
  rw [ninf_bf16] at h
  exact h

/-- The scales, on every lane. -/
abbrev xScaleV (y : FVec Ideal S32x1280 .bf16) : FVec Ideal S32x128 .f32 := scaleV (xMaxV y)

/-- The scale of a row of `x`, spread over the lanes. -/
theorem xScaleV_at (y : FVec Ideal S32x1280 .bf16) (i : Fin 32) (l : Fin 128) :
    xScaleV y (ix2 i l) = kScale (amax fun d => y (ix2 i d)) :=
  (scale_at _ _).trans (congrArg kScale (xMaxV_at y i l))

/-- The scales as they are stored. -/
abbrev xScaleS (y : FVec Ideal S32x1280 .bf16) : FVec Ideal S1x32x128 .f32 := shapeCast S1x32x128 (xScaleV y) shapeCasts_S32x128_S1x32x128

/-- The scales of a chunk with a leading unit axis added, at an index. -/
theorem unfoldS_at (w : FVec Ideal S32x128 .f32) (i : Fin 32) (l : Fin 128) :
    shapeCast S1x32x128 w shapeCasts_S32x128_S1x32x128 (ix3 0 i l) = w (ix2 i l) := by
  pointwise

/-- The scales of `x` as they are stored, at an index. -/
theorem xScaleS_at (y : FVec Ideal S32x1280 .bf16) (i : Fin 32) (l : Fin 128) :
    xScaleS y (ix3 0 i l) = kScale (amax fun d => y (ix2 i d)) :=
  (unfoldS_at _ i l).trans (xScaleV_at y i l)

/-- The codes as they are stored, from the scales `z`. -/
abbrev xCodeV (y : FVec Ideal S32x1280 .bf16) (z : FVec Ideal S32x128 .f32) : FVec Ideal S1x32x1280 .fp8e4m3 :=
  shapeCast S1x32x1280 (truncf .fp8e4m3 (minimumf (broadcast S32x1280 (Scalar.truncf .bf16 bitsLt_bf16_f32 (bits 0x43E00000#32) : Ideal .bf16))
      (maximumf (broadcast S32x1280 (Scalar.truncf .bf16 bitsLt_bf16_f32 (bits 0xC3E00000#32) : Ideal .bf16))
        (mulf y (broadcastTo S32x1280 (truncf .bf16 (extractStridedSlice S32x1 ![0, 0] (divf (broadcast S32x128 (bits 0x3F800000#32)) z) slices_S32x128_o0_0_S32x1) bitsLt_bf16_f32) broadcasts_S32x1_S32x1280))))
    bitsLt_fp8e4m3_bf16) shapeCasts_S32x1280_S1x32x1280

/-- The codes of a chunk of `x` with a leading unit axis added, at an index. -/
theorem unfoldX_at (w : FVec Ideal S32x1280 .bf16) (i : Fin 32) (d : Fin 1280) :
    shapeCast S1x32x1280 (truncf .fp8e4m3 w bitsLt_fp8e4m3_bf16) shapeCasts_S32x1280_S1x32x1280 (ix3 0 i d) = w (ix2 i d) := by
  pointwise

/-- The inverse of the first lane of the scales, spread over the features. -/
theorem xinv_at (z : FVec Ideal S32x128 .f32) (i : Fin 32) (d : Fin 1280) :
    broadcastTo S32x1280 (truncf .bf16 (extractStridedSlice S32x1 ![0, 0] (divf (broadcast S32x128 (bits 0x3F800000#32)) z) slices_S32x128_o0_0_S32x1) bitsLt_bf16_f32) broadcasts_S32x1_S32x1280 (ix2 i d)
      = Ideal.div 1 (z (ix2 i 0)) := by
  pointwise

/-- The codes of a chunk of `x` as they are stored, at an index. -/
theorem xCodeV_at (y : FVec Ideal S32x1280 .bf16) (i : Fin 32) (d : Fin 1280) :
    xCodeV y (xScaleV y) (ix3 0 i d) = kxCode (amax fun d => y (ix2 i d)) (y (ix2 i d)) := by
  refine (unfoldX_at _ i d).trans ((clip16_at y _ (ix2 i d)).trans ?_)
  rw [xinv_at, xScaleV_at]
  rfl

/-- A chunk of `x` with its leading unit axis dropped, at an index. -/
theorem rowsV_at (x : FVec Ideal S1x32x1280 .bf16) (i : Fin 32) (d : Fin 1280) : rowsV x (ix2 i d) = x (ix3 0 i d) := by
  have h : (shapeCast S32x1280 x shapeCasts_S1x32x1280_S32x1280 : FVec Ideal S32x1280 .bf16) (ix2 i d) = x (ix3 0 i d) := by
    pointwise
  exact h

end Cert.KernelIdeal.Run

end
-- ==== Proof.Equations.lean ====
/- The equations between the kernel's and the reference's scalar spellings: scales, codes and the gated unit. -/
module

public import proofs.«01_k».proof.Proof.Spec

@[expose] public section

noncomputable section

namespace Cert.Spec

open Idealize.ShloMosaic

/-! ## Magnitudes -/

/-- A magnitude is not negative. -/
theorem abs_nonneg' (v : EReal) : 0 ≤ max v (-v) := by
  induction v with
  | bot => simp
  | top => simp
  | coe r => rcases le_total 0 r with h | h
             · exact le_max_of_le_left (by exact_mod_cast h)
             · exact le_max_of_le_right (by rw [← EReal.coe_neg]; exact_mod_cast neg_nonneg.mpr h)

/-- A magnitude vanishes exactly at zero. -/
theorem abs_zero_iff (v : EReal) : max v (-v) = 0 ↔ v = 0 := by
  constructor
  · intro h
    have h1 : v ≤ 0 := h ▸ le_max_left _ _
    have h2 : -v ≤ 0 := h ▸ le_max_right _ _
    have h3 : 0 ≤ v := by simpa using h2
    exact le_antisymm h1 h3
  · rintro rfl; simp

/-- The largest magnitude as a supremum. -/
theorem amax_eq {n : Nat} (f : Fin n → EReal) : amax f = Finset.univ.sup (fun k => max (f k) (-(f k))) := by
  unfold amax; rw [ninf_eq]; rfl

/-- Every magnitude is at most the largest. -/
theorem le_amax {n : Nat} (f : Fin n → EReal) (k : Fin n) : max (f k) (-(f k)) ≤ amax f := by
  rw [amax_eq]; exact Finset.le_sup (f := fun k => max (f k) (-(f k))) (Finset.mem_univ k)

/-- The largest magnitude is not negative. -/
theorem amax_nonneg {n : Nat} (f : Fin n → EReal) (k : Fin n) : 0 ≤ amax f :=
  (abs_nonneg' _).trans (le_amax f k)

/-- A row whose largest magnitude is zero vanishes. -/
theorem eq_zero_of_amax {n : Nat} (f : Fin n → EReal) (h : amax f = 0) (k : Fin n) : f k = 0 :=
  (abs_zero_iff _).mp (le_antisymm (h ▸ le_amax f k) (abs_nonneg' _))

/-- The largest magnitude of a vanishing row is zero. -/
theorem amax_zero {n : Nat} (k : Fin n) : amax (fun _ : Fin n => (0 : EReal)) = 0 := by
  refine le_antisymm ?_ (amax_nonneg _ k)
  rw [amax_eq]; exact Finset.sup_le fun _ _ => by simp

/-- Scaling a row by a positive real scales its largest magnitude. -/
theorem amax_mul {n : Nat} (f : Fin n → EReal) (s : ℝ) (hs : 0 < s) :
    amax (fun k => (s : EReal) * f k) = (s : EReal) * amax f := by
  have hs' : (0 : EReal) ≤ (s : EReal) := by exact_mod_cast hs.le
  have hm : Monotone (fun x : EReal => (s : EReal) * x) := fun a b h => mul_le_mul_of_nonneg_left h hs'
  have := Finset.comp_sup_eq_sup_comp_of_is_total (s := Finset.univ) (f := fun k => max (f k) (-(f k)))
    (fun x : EReal => (s : EReal) * x) hm (EReal.coe_mul_bot_of_pos hs)
  rw [amax_eq, amax_eq]
  refine Eq.trans ?_ this.symm
  congr 1
  funext k
  show max _ _ = (s : EReal) * max _ _
  rw [hm.map_max, mul_neg]

/-! ## Exponents -/

/-- `1 / 448` is positive. -/
theorem c448_pos : (0 : ℝ) < 1 / 448 := by norm_num

/-- `a / 448` vanishes exactly when `a` does. -/
theorem mul_c448_eq_zero (a : EReal) : a * c448 = 0 ↔ a = 0 := by
  unfold c448
  induction a with
  | bot => simp [EReal.bot_mul_coe_of_pos c448_pos]
  | top => simp [EReal.top_mul_coe_of_pos c448_pos]
  | coe r =>
    rw [← EReal.coe_mul, EReal.coe_eq_zero, EReal.coe_eq_zero]
    constructor
    · intro h; rcases mul_eq_zero.mp h with h | h
      · exact h
      · norm_num at h
    · rintro rfl; simp

/-- `1 / log 2` is positive. -/
theorem log_two_pos : (0 : ℝ) < (Real.log 2)⁻¹ := inv_pos.mpr (Real.log_pos (by norm_num))

/-- The exponent of an infinite maximum is infinite. -/
theorem lexp_top : lexp ⊤ = ⊤ := by
  unfold lexp c448 lg
  rw [EReal.top_mul_coe_of_pos c448_pos, Ideal.log_top, EReal.top_mul_coe_of_pos log_two_pos, Ideal.liftRound_top]

/-- The exponent of a positive real maximum is an integer. -/
theorem lexp_coe (r : ℝ) (h : 0 < r) :
    lexp r = ((⌊Real.log (r * (1 / 448)) * (Real.log 2)⁻¹⌋ : ℝ) : EReal) := by
  unfold lexp c448 lg
  rw [← EReal.coe_mul, Ideal.log_coe, if_neg (not_le.mpr (mul_pos h c448_pos)), ← EReal.coe_mul, Ideal.liftRound_coe]

/-- Multiplying the magnitude by `2 ^ z` adds `z` to the exponent. -/
theorem lexp_scale (a : EReal) (ha : 0 < a) (z : ℤ) :
    lexp (((2 : ℝ) ^ z : ℝ) * a) = lexp a + ((z : ℝ) : EReal) := by
  have hz : (0 : ℝ) < (2 : ℝ) ^ z := by positivity
  induction a with
  | bot => simp at ha
  | top => rw [EReal.coe_mul_top_of_pos hz, lexp_top, EReal.top_add_coe]
  | coe r =>
    have hr : 0 < r := by exact_mod_cast ha
    rw [← EReal.coe_mul, lexp_coe _ (mul_pos hz hr), lexp_coe _ hr, ← EReal.coe_add, mul_assoc,
      Real.log_mul hz.ne' (mul_pos hr c448_pos).ne', Real.log_zpow, add_mul, mul_assoc,
      mul_inv_cancel₀ (Real.log_pos (by norm_num)).ne', mul_one, Int.floor_intCast_add]
    push_cast
    rw [add_comm]

/-- The exponent of a positive magnitude is an integer or `⊤`. -/
theorem lexp_cases (a : EReal) (ha : 0 < a) : lexp a = ⊤ ∨ ∃ z : ℤ, lexp a = ((z : ℝ) : EReal) := by
  induction a with
  | bot => simp at ha
  | top => exact .inl lexp_top
  | coe r => exact .inr ⟨_, lexp_coe r (by exact_mod_cast ha)⟩

/-- The power of two of an integer. -/
theorem exp2_int (z : ℤ) : Ideal.exp2 ((z : ℝ) : EReal) = (((2 : ℝ) ^ z : ℝ) : EReal) := by
  rw [Ideal.exp2_coe]
  congr 1
  exact Real.rpow_intCast 2 z

/-! ## The quantiser of a row of `x` -/

/-- The kernel's scale is the reference's. -/
theorem kScale_eq (a : EReal) : kScale a = rScale 1 a := by
  unfold kScale rScale kExp rExp
  simp only [mul_c448_eq_zero]
  split_ifs <;> rfl

/-- The scale of a row is a power of two, or `⊤`. -/
theorem rScale_cases (a : EReal) (ha : 0 ≤ a) : rScale 1 a = ⊤ ∨ ∃ z : ℤ, rScale 1 a = (((2 : ℝ) ^ z : ℝ) : EReal) := by
  unfold rScale rExp
  split_ifs with h
  · exact .inr ⟨0, by simp⟩
  · rcases lexp_cases a (lt_of_le_of_ne ha (Ne.symm h)) with h | ⟨z, h⟩
    · left; rw [h, show (⊤ : EReal) + 1 = ⊤ from EReal.top_add_coe 1, Ideal.exp2_top]
    · refine .inr ⟨z + 1, ?_⟩
      rw [h, ← exp2_int]; push_cast; rfl

/-- Dividing by the scale and multiplying by the power of the negated exponent are the same. -/
theorem inv_kScale (a : EReal) (ha : 0 ≤ a) : Ideal.div 1 (kScale a) = Ideal.exp2 (0 - rExp a) := by
  rw [kScale_eq]
  unfold rScale rExp
  split_ifs with h
  · rw [show (0 : EReal) - 0 = ((0 : ℤ) : ℝ) by simp, exp2_int]; simp [Ideal.div]
  · rcases lexp_cases a (lt_of_le_of_ne ha (Ne.symm h)) with h | ⟨z, h⟩
    · rw [h, show (⊤ : EReal) + 1 = ⊤ from EReal.top_add_coe 1, Ideal.exp2_top]
      simp [Ideal.div]
    · have e1 : ((z : ℝ) : EReal) + 1 = (((z + 1 : ℤ) : ℝ) : EReal) := by push_cast; rfl
      have e2 : (0 : EReal) - (((z + 1 : ℤ) : ℝ) : EReal) = (((-(z + 1) : ℤ) : ℝ) : EReal) := by
        rw [← EReal.coe_zero, ← EReal.coe_sub, zero_sub, Int.cast_neg]
      have hp : (0 : ℝ) < (2 : ℝ) ^ (z + 1) := by positivity
      rw [h, e1, e2, exp2_int, exp2_int, zpow_neg, Ideal.div, if_neg (by exact_mod_cast hp.ne'), one_mul, EReal.coe_inv]

/-- The kernel's code of an entry of `x` is the reference's. -/
theorem kxCode_eq (a v : EReal) (ha : 0 ≤ a) : kxCode a v = rCode a v := by
  unfold kxCode rCode; rw [inv_kScale a ha]

/-- A row of infinite scale has only the code of zero. -/
theorem kxCode_top (a v : EReal) (h : kScale a = ⊤) : kxCode a v = 0 := by
  unfold kxCode clip
  rw [h, lo_eq, hi_eq]
  have : Ideal.div 1 ⊤ = 0 := by simp [Ideal.div]
  rw [this, mul_zero]
  rw [max_eq_right (by exact_mod_cast (by norm_num : (-448 : ℝ) ≤ 0)), min_eq_right (by exact_mod_cast (by norm_num : (0 : ℝ) ≤ 448))]

/-! ## The quantiser of the hidden array -/

/-- `mone - e` for an integer `e`. -/
theorem mone_sub (z : ℤ) : mone - ((z : ℝ) : EReal) = (((-1 - z : ℤ) : ℝ) : EReal) := by
  rw [mone_eq, ← EReal.coe_sub]; push_cast; rfl

/-- The codes and the scales of `s · h` as the reference writes them are the kernel's of `h`, for a scale `s` that is a power of
    two. -/
theorem hidden_pow {n : Nat} (f : Fin n → EReal) (z : ℤ) (k : Fin n) :
    khCode (amax f) (f k) = rCode (amax fun j => (((2 : ℝ) ^ z : ℝ) : EReal) * f j) ((((2 : ℝ) ^ z : ℝ) : EReal) * f k)
    ∧ kScale (amax f) * (((2 : ℝ) ^ z : ℝ) : EReal)
      = rScale (((2 : ℝ) ^ z : ℝ) : EReal) (amax fun j => (((2 : ℝ) ^ z : ℝ) : EReal) * f j) := by
  have hz : (0 : ℝ) < (2 : ℝ) ^ z := by positivity
  rw [amax_mul f _ hz]
  rcases (amax_nonneg f k).eq_or_lt with h0 | hpos
  · rw [← h0, eq_zero_of_amax f h0.symm k, mul_zero]
    unfold khCode rCode kScale rScale
    simp
  · have hne : amax f ≠ 0 := hpos.ne'
    have hne' : (((2 : ℝ) ^ z : ℝ) : EReal) * amax f ≠ 0 := by
      intro h
      have := (EReal.mul_pos (by exact_mod_cast hz) hpos : (0 : EReal) < (((2 : ℝ) ^ z : ℝ) : EReal) * amax f)
      exact this.ne' h
    unfold khCode rCode kScale rScale kExp rExp
    simp only [mul_c448_eq_zero, if_neg hne, if_neg hne', lexp_scale _ hpos]
    rcases lexp_cases _ hpos with h | ⟨e, h⟩
    · rw [h, EReal.top_add_coe, show (⊤ : EReal) + 1 = ⊤ from EReal.top_add_coe 1, Ideal.exp2_top,
        EReal.top_mul_coe_of_pos hz, EReal.sub_top, EReal.sub_top, Ideal.exp2_bot, mul_zero, mul_zero]
      exact ⟨rfl, rfl⟩
    · have e1 : ((e : ℝ) : EReal) + ((z : ℝ) : EReal) + 1 = (((e + z + 1 : ℤ) : ℝ) : EReal) := by push_cast; rfl
      have e2 : ((e : ℝ) : EReal) + 1 = (((e + 1 : ℤ) : ℝ) : EReal) := by push_cast; rfl
      have e3 : (0 : EReal) - (((e + z + 1 : ℤ) : ℝ) : EReal) = (((-(e + z + 1) : ℤ) : ℝ) : EReal) := by
        rw [← EReal.coe_zero, ← EReal.coe_sub, zero_sub, Int.cast_neg]
      rw [h, e1, e2, e3, mone_sub, exp2_int, exp2_int, exp2_int, exp2_int]
      constructor
      · congr 1
        rw [mul_comm (((2 : ℝ) ^ z : ℝ) : EReal) (f k), mul_assoc, ← EReal.coe_mul, ← zpow_add₀ (by norm_num : (2 : ℝ) ≠ 0),
          show z + -(e + z + 1) = -1 - e by ring]
      · rw [← EReal.coe_mul, ← zpow_add₀ (by norm_num : (2 : ℝ) ≠ 0)]
        congr 2; ring

/-- The same for any scale of a row of `x`: where it is `⊤`, the hidden row vanishes. -/
theorem hidden {n : Nat} (f : Fin n → EReal) (s : EReal) (hs : s = ⊤ ∨ ∃ z : ℤ, s = (((2 : ℝ) ^ z : ℝ) : EReal))
    (h0 : s = ⊤ → ∀ j, f j = 0) (k : Fin n) :
    khCode (amax f) (f k) = rCode (amax fun j => s * f j) (s * f k)
    ∧ kScale (amax f) * s = rScale s (amax fun j => s * f j) := by
  rcases hs with rfl | ⟨z, rfl⟩
  · have hf : f = fun _ => 0 := funext (h0 rfl)
    subst hf
    simp only [mul_zero]
    rw [amax_zero k]
    unfold khCode rCode kScale rScale
    simp
  · exact hidden_pow f z k

/-! ## The gated unit -/

/-- The kernel's factor on the gate is positive. -/
theorem gk_pos : (0 : ℝ) < 370650180020949 / 1125899906842624 := by norm_num

/-- The gate's two spellings of the argument of `tanh` agree. -/
theorem tanh_arg (y : EReal) : gk * y * (cg + gk * y * (gk * y)) = s2p * (y + cub * (y * y * y)) := by
  have hp : (0 : ℝ) < Real.sqrt (2 * Real.pi⁻¹) := Real.sqrt_pos.mpr (by positivity)
  have hc : (0 : ℝ) < (50920498444263195832106125525075868230730349 / 1427247692705959881058285969449495136382746624) * (Real.sqrt (2 * Real.pi⁻¹))⁻¹ := by positivity
  unfold gk cg s2p cub
  generalize Real.sqrt (2 * Real.pi⁻¹) = q at *
  induction y with
  | bot =>
    rw [EReal.coe_mul_bot_of_pos gk_pos, EReal.bot_mul_bot, EReal.coe_add_top, EReal.bot_mul_top, EReal.top_mul_bot,
      EReal.coe_mul_bot_of_pos hc, EReal.bot_add, EReal.coe_mul_bot_of_pos hp]
  | top =>
    rw [EReal.coe_mul_top_of_pos gk_pos, EReal.top_mul_top, EReal.coe_add_top, EReal.top_mul_top,
      EReal.coe_mul_top_of_pos hc, EReal.top_add_top, EReal.coe_mul_top_of_pos hp]
  | coe r =>
    simp only [← EReal.coe_mul, ← EReal.coe_add]
    congr 1
    field_simp
    ring

/-- The two spellings of the gated unit differ by the row's scale. -/
theorem gate_eq (s p q u v : EReal) : rGate s p q u v = s * kGate s p q u v := by
  unfold rGate kGate
  have ha : p * (u * gk) * s = gk * (p * s * u) := by ac_rfl
  rw [ha, tanh_arg]
  generalize Ideal.tanh (s2p * (p * s * u + cub * (p * s * u * (p * s * u) * (p * s * u)))) = t
  generalize p * s * u = y
  have hd : gk * y + gk * y * t = gk * (y + y * t) := by
    unfold gk
    rw [EReal.left_distrib_of_nonneg_of_ne_top (by exact_mod_cast gk_pos.le) (EReal.coe_ne_top _), mul_assoc]
  have hh : half = gk * uk := by
    unfold gk uk; rw [half_eq, ← EReal.coe_mul]; congr 1; norm_num
  rw [hd, hh]
  ac_rfl

/-- With vanishing products the gated unit vanishes. -/
theorem kGate_zero (s u v : EReal) : kGate s 0 0 u v = 0 := by
  unfold kGate; simp

end Cert.Spec

end
-- ==== Proof.Target.lean ====
/- The results of the two programs as functions of one row of `x`, the weights and the weight scales, and that they agree. -/
module

public import proofs.«01_k».proof.Proof.Equations

@[expose] public section

noncomputable section

namespace Cert.Spec

open Idealize.ShloMosaic

/-- The reference's product of the codes of the row `f` with the column `(g, j)` of the weights `w`. -/
def rProd (f : Fin 1280 → EReal) (w : Fin 1280 → EReal) : EReal := ∑ d : Fin 1280, rCode (amax f) (f d) * w d
/-- The kernel's product of the codes of the row `f` with the column `w`. -/
def kProd (f : Fin 1280 → EReal) (w : Fin 1280 → EReal) : EReal := ∑ d : Fin 1280, kxCode (amax f) (f d) * w d

/-- The reference's hidden row. -/
def rHid (f : Fin 1280 → EReal) (wg wu : Fin 128 → Fin 1280 → EReal) (sg su : Fin 128 → EReal) (j : Fin 128) : EReal :=
  rGate (rScale 1 (amax f)) (rProd f (wg j)) (rProd f (wu j)) (sg j) (su j)
/-- The kernel's hidden row, without the row's scale. -/
def kHid (f : Fin 1280 → EReal) (wg wu : Fin 128 → Fin 1280 → EReal) (sg su : Fin 128 → EReal) (j : Fin 128) : EReal :=
  kGate (kScale (amax f)) (kProd f (wg j)) (kProd f (wu j)) (sg j) (su j)

/-- The codes of `x` agree. -/
theorem xc_eq (f : Fin 1280 → EReal) (d : Fin 1280) : kxCode (amax f) (f d) = rCode (amax f) (f d) :=
  kxCode_eq _ _ (amax_nonneg f d)

/-- The products agree. -/
theorem prod_eq (f w : Fin 1280 → EReal) : kProd f w = rProd f w :=
  Finset.sum_congr rfl fun d _ => by rw [xc_eq]

/-- A row whose scale is infinite has only vanishing products. -/
theorem prod_top (f w : Fin 1280 → EReal) (h : kScale (amax f) = ⊤) : kProd f w = 0 :=
  Finset.sum_eq_zero fun d _ => by rw [kxCode_top _ _ h, zero_mul]

/-- The hidden rows differ by the row's scale. -/
theorem hid_eq (f : Fin 1280 → EReal) (wg wu : Fin 128 → Fin 1280 → EReal) (sg su : Fin 128 → EReal) (j : Fin 128) :
    rHid f wg wu sg su j = kScale (amax f) * kHid f wg wu sg su j := by
  unfold rHid kHid
  rw [gate_eq, ← kScale_eq, prod_eq, prod_eq]

/-- The codes of the hidden row agree, and its scales. -/
theorem hc_eq (f : Fin 1280 → EReal) (wg wu : Fin 128 → Fin 1280 → EReal) (sg su : Fin 128 → EReal) (k : Fin 128) :
    khCode (amax (kHid f wg wu sg su)) (kHid f wg wu sg su k)
        = rCode (amax (rHid f wg wu sg su)) (rHid f wg wu sg su k)
    ∧ kScale (amax (kHid f wg wu sg su)) * kScale (amax f)
        = rScale (rScale 1 (amax f)) (amax (rHid f wg wu sg su)) := by
  have h := hidden (kHid f wg wu sg su) (kScale (amax f))
    (by rw [kScale_eq]; exact rScale_cases _ (amax_nonneg f 0))
    (fun h j => by unfold kHid; rw [prod_top _ _ h, prod_top _ _ h, kGate_zero]) k
  have e : rHid f wg wu sg su = fun j => kScale (amax f) * kHid f wg wu sg su j := funext (hid_eq f wg wu sg su)
  rw [e, ← kScale_eq]
  exact h

end Cert.Spec

end
-- ==== Proof.Block.lean ====
/- What the arrays of one grid point hold, as functions of the point's blocks, and the pieces of the 32 chunks that write them. -/
module

public import proofs.«01_k».proof.Proof.Chunk
public import proofs.«01_k».proof.Proof.Target
public import Idealize.ShloMosaic.Lib.Pipeline.ValueKit.Geometry

@[expose] public section

set_option maxRecDepth 16384

noncomputable section

namespace Cert.KernelIdeal.Run

open Cert.KernelIdeal Cert.KernelIdeal.Gen Idealize.ShloMosaic Idealize.ShloMosaic.TcCoe Idealize.SL.Sem Cert.Spec Cert.Elem

/-- The 32 chunks, last first: the batch and the block of 32 rows. -/
def chunks : List (Fin 2 × Fin 16) :=
  [(1, 15), (1, 14), (1, 13), (1, 12), (1, 11), (1, 10), (1, 9), (1, 8), (1, 7), (1, 6), (1, 5), (1, 4), (1, 3), (1, 2), (1, 1), (1, 0),
   (0, 15), (0, 14), (0, 13), (0, 12), (0, 11), (0, 10), (0, 9), (0, 8), (0, 7), (0, 6), (0, 5), (0, 4), (0, 3), (0, 2), (0, 1), (0, 0)]

/-- Every pair of a batch and a row chunk is in the list of chunks. -/
theorem mem_chunks : ∀ q : Fin 2 × Fin 16, q ∈ chunks := by decide

/-- The first row of a chunk leaves room for 32. -/
theorem row_le (q : Fin 2 × Fin 16) : 32 * q.2.val + 32 ≤ 512 := by omega

section
variable (X : Vec Ideal S2x512x1280 .bf16) (W : Vec Ideal S22x2x1280x128 .fp8e4m3) (S : Vec Ideal S22x2x128 .f32)

/-- A row of the block of `x`. -/
def brow (b : Fin 2) (r : Fin 512) : Fin 1280 → EReal := fun d => X (ix3 b r d)
/-- A hidden row, without its scale, in the group `g`. -/
def bhid (b : Fin 2) (r : Fin 512) (g : Fin 22) : Fin 128 → EReal :=
  kHid (brow X b r) (fun j d => W (ix4 g 0 d j)) (fun j d => W (ix4 g 1 d j)) (fun j => S (ix3 g 0 j)) (fun j => S (ix3 g 1 j))

/-- The codes of `x`. -/
def gXc : Vec Ideal S2x512x1280 .fp8e4m3 := fun y => kxCode (amax (brow X (y 0) (y 1))) (X y)
/-- The scales of `x`, on every lane. -/
def gXs : Vec Ideal S2x512x128 .f32 := fun y => kScale (amax (brow X (y 0) (y 1)))
/-- The largest magnitudes of the hidden rows: lane `g` holds group `g`. -/
def gAm : Vec Ideal S2x512x128 .f32 := fun y =>
  if h : (y 2).val < 22 then amax (bhid X W S (y 0) (y 1) ⟨(y 2).val, h⟩) else kScale (amax (brow X (y 0) (y 1)))
/-- The codes of the hidden rows. -/
def gHc : Vec Ideal S2x512x2816 .fp8e4m3 := fun y =>
  khCode (amax (bhid X W S (y 0) (y 1) ⟨(y 2).val / 128, Nat.div_lt_of_lt_mul (y 2).isLt⟩))
    (bhid X W S (y 0) (y 1) ⟨(y 2).val / 128, Nat.div_lt_of_lt_mul (y 2).isLt⟩ ⟨(y 2).val % 128, Nat.mod_lt _ (by decide)⟩)

/-- The block of hidden codes at an index whose coordinates are known. -/
theorem gHc_of (y : S2x512x2816.Idx) (b : Fin 2) (r : Fin 512) (g : Fin 22) (j : Fin 128) (h0 : (y 0).val = b.val) (h1 : (y 1).val = r.val)
    (h2 : (y 2).val = 128 * g.val + j.val) : gHc X W S y = khCode (amax (bhid X W S b r g)) (bhid X W S b r g j) := by
  have hy : y = ix3 b r ⟨128 * g.val + j.val, by omega⟩ :=
    (eq_ix3 y).trans (congr (congr (congrArg ix3 (Fin.ext h0)) (Fin.ext h1)) (Fin.ext h2))
  generalize hz : ix3 b r _ = z at hy
  rw [hy, ← hz]
  clear hy hz
  have e1 : (⟨(128 * g.val + j.val) / 128, by omega⟩ : Fin 22) = g := Fin.ext (by show (128 * g.val + j.val) / 128 = g.val; omega)
  have e2 : (⟨(128 * g.val + j.val) % 128, by omega⟩ : Fin 128) = j := Fin.ext (by show (128 * g.val + j.val) % 128 = j.val; omega)
  show khCode (amax (bhid X W S b r ⟨(128 * g.val + j.val) / 128, _⟩)) (bhid X W S b r ⟨(128 * g.val + j.val) / 128, _⟩ ⟨(128 * g.val + j.val) % 128, _⟩) = _
  rw [e1, e2]

/-- The block of maxima at an index whose lane is a group. -/
theorem gAm_of (y : S2x512x128.Idx) (b : Fin 2) (r : Fin 512) (g : Fin 22) (h0 : (y 0).val = b.val) (h1 : (y 1).val = r.val)
    (h2 : (y 2).val = g.val) : gAm X W S y = amax (bhid X W S b r g) := by
  have hy : y = ix3 b r ⟨g.val, by omega⟩ :=
    (eq_ix3 y).trans (congr (congr (congrArg ix3 (Fin.ext h0)) (Fin.ext h1)) (Fin.ext h2))
  generalize hz : ix3 b r _ = z at hy
  rw [hy, ← hz]
  clear hy hz
  exact dif_pos g.isLt

/-- The block of row scales at an index whose batch and row are known. -/
theorem gXs_of (y : S2x512x128.Idx) (b : Fin 2) (r : Fin 512) (h0 : (y 0).val = b.val) (h1 : (y 1).val = r.val) :
    gXs X y = kScale (amax (brow X b r)) := by
  unfold gXs
  rw [show y 0 = b from Fin.ext h0, show y 1 = r from Fin.ext h1]

/-- The block of codes of `x` at an index whose coordinates are known. -/
theorem gXc_of (y : S2x512x1280.Idx) (b : Fin 2) (r : Fin 512) (d : Fin 1280) (h0 : (y 0).val = b.val) (h1 : (y 1).val = r.val)
    (h2 : (y 2).val = d.val) : gXc X y = kxCode (amax (brow X b r)) (brow X b r d) := by
  obtain rfl : y = ix3 b r d := (eq_ix3 y).trans (congr (congr (congrArg ix3 (Fin.ext h0)) (Fin.ext h1)) (Fin.ext h2))
  rfl

/-! ## One chunk against the arrays -/

variable {b : Fin 2} {r : ℕ} (hr : r + 32 ≤ 512)
include hr

/-- The codes a chunk stores are the array's. -/
theorem hc_piece (g : Fin 22) (w : FVec Ideal S32x128 .f32) (hw : ∀ (i : Fin 32) (j : Fin 128), w (ix2 i j) = bhid X W S b ⟨r + i.val, by omega⟩ g j)
    (o : Fin 3 → ℕ) (ho : o = ![b.val, r, 128 * g.val]) (inb) (x : (Rect.unit (s := S2x512x2816) o S1x32x128.size inb).shape.Idx) :
    codeV w x = gHc X W S ((Rect.unit (s := S2x512x2816) o S1x32x128.size inb).emb x) := by
  subst ho
  obtain ⟨z, i, j, rfl⟩ : ∃ (z : Fin 1) (i : Fin 32) (j : Fin 128), x = ix3 z i j := ⟨x 0, x 1, x 2, eq_ix3 x⟩
  obtain rfl : z = 0 := Subsingleton.elim _ _
  refine (codeV_at w i j).trans ?_
  rw [gHc_of X W S _ b ⟨r + i.val, by omega⟩ g j (ValueKit.rect_emb_unit_val ..) (ValueKit.rect_emb_unit_val ..) (ValueKit.rect_emb_unit_val ..), hw,
    show (fun j => w (ix2 i j)) = bhid X W S b ⟨r + i.val, by omega⟩ g from funext fun j => hw i j]

/-- The largest magnitudes a chunk stores are the array's. -/
theorem am_piece (g : Fin 22) (w : FVec Ideal S32x128 .f32) (hw : ∀ (i : Fin 32) (j : Fin 128), w (ix2 i j) = bhid X W S b ⟨r + i.val, by omega⟩ g j)
    (o : Fin 3 → ℕ) (ho : o = ![b.val, r, g.val]) (inb) (x : (Rect.unit (s := S2x512x128) o S1x32x1.size inb).shape.Idx) :
    amaxV w x = gAm X W S ((Rect.unit (s := S2x512x128) o S1x32x1.size inb).emb x) := by
  subst ho
  obtain ⟨z, i, j, rfl⟩ : ∃ (z : Fin 1) (i : Fin 32) (j : Fin 1), x = ix3 z i j := ⟨x 0, x 1, x 2, eq_ix3 x⟩
  obtain rfl : z = 0 := Subsingleton.elim _ _
  obtain rfl : j = 0 := Subsingleton.elim _ _
  refine (amaxV_at w i).trans ?_
  rw [gAm_of X W S _ b ⟨r + i.val, by omega⟩ g (ValueKit.rect_emb_unit_val ..) (ValueKit.rect_emb_unit_val ..) (ValueKit.rect_emb_unit_val ..),
    show (fun j => w (ix2 i j)) = bhid X W S b ⟨r + i.val, by omega⟩ g from funext fun j => hw i j]

omit W S
/-- The codes of `x` a chunk stores are the array's. -/
theorem xc_piece (y : FVec Ideal S32x1280 .bf16) (hy : ∀ (i : Fin 32) (d : Fin 1280), y (ix2 i d) = brow X b ⟨r + i.val, by omega⟩ d)
    (o : Fin 3 → ℕ) (ho : o = ![b.val, r, 0]) (inb) (x : (Rect.unit (s := S2x512x1280) o S1x32x1280.size inb).shape.Idx) :
    xCodeV y (xScaleV y) x = gXc X ((Rect.unit (s := S2x512x1280) o S1x32x1280.size inb).emb x) := by
  subst ho
  obtain ⟨z, i, d, rfl⟩ : ∃ (z : Fin 1) (i : Fin 32) (d : Fin 1280), x = ix3 z i d := ⟨x 0, x 1, x 2, eq_ix3 x⟩
  obtain rfl : z = 0 := Subsingleton.elim _ _
  refine (xCodeV_at y i d).trans ?_
  rw [gXc_of X _ b ⟨r + i.val, by omega⟩ d (ValueKit.rect_emb_unit_val ..) (ValueKit.rect_emb_unit_val ..) ((ValueKit.rect_emb_unit_val ..).trans (Nat.zero_add _)), hy,
    show (fun d => y (ix2 i d)) = brow X b ⟨r + i.val, by omega⟩ from funext fun d => hy i d]

/-- The scales of `x` a chunk stores are the array's. -/
theorem xs_piece (y : FVec Ideal S32x1280 .bf16) (hy : ∀ (i : Fin 32) (d : Fin 1280), y (ix2 i d) = brow X b ⟨r + i.val, by omega⟩ d)
    (o : Fin 3 → ℕ) (ho : o = ![b.val, r, 0]) (inb) (x : (Rect.unit (s := S2x512x128) o S1x32x128.size inb).shape.Idx) :
    xScaleS y x = gXs X ((Rect.unit (s := S2x512x128) o S1x32x128.size inb).emb x) := by
  subst ho
  obtain ⟨z, i, l, rfl⟩ : ∃ (z : Fin 1) (i : Fin 32) (l : Fin 128), x = ix3 z i l := ⟨x 0, x 1, x 2, eq_ix3 x⟩
  obtain rfl : z = 0 := Subsingleton.elim _ _
  refine (xScaleS_at y i l).trans ?_
  rw [gXs_of X _ b ⟨r + i.val, by omega⟩ (ValueKit.rect_emb_unit_val ..) (ValueKit.rect_emb_unit_val ..),
    show (fun d => y (ix2 i d)) = brow X b ⟨r + i.val, by omega⟩ from funext fun d => hy i d]

end

end Cert.KernelIdeal.Run

end
-- ==== Proof.Trip.lean ====
/- The pieces the loop over the 22 groups writes: which they are, and what each holds. -/
module

public import proofs.«01_k».proof.Proof.Block
public import Idealize.ShloMosaic.Lib.Pipeline.ValueKit.Tiles
import all proofs.«01_k».proof.Proof.Gen.KernelIdeal.Loops

@[expose] public section

set_option maxRecDepth 65536

noncomputable section

namespace Cert.KernelIdeal.Run

open Cert.KernelIdeal Cert.KernelIdeal.Gen Idealize.ShloMosaic Idealize.ShloMosaic.TcCoe Idealize.SL.Sem Cert.Spec Cert.Elem

/-- A chunk of 32 rows and all lanes lies inside the array. -/
theorem inb_rows (n m : ℕ) (hm : m ≤ n) (q : Fin 2 × Fin 16) (a : Fin 3) :
    (![q.1.val, 32 * q.2.val, 0] : Fin 3 → ℕ) a + (![1, 32, m] : Fin 3 → ℕ) a ≤ (![2, 512, n] : Fin 3 → ℕ) a := by
  have := row_le q
  fin_cases a
  · show q.1.val + 1 ≤ 2; omega
  · show 32 * q.2.val + 32 ≤ 512; omega
  · show 0 + m ≤ n; omega

/-- The loop runs over the 22 groups. -/
theorem trips_eq : k0_t1_loop.trips = 22 := by decide +kernel

/-- The group of a trip. -/
def grp (k : Fin k0_t1_loop.trips) : Fin 22 := ⟨k.val, by have := trips_eq; omega⟩

/-- One batch lies inside the array of codes of `x`. -/
theorem inb_batch (b : Fin 2) (a : Fin 3) :
    (![b.val, 0, 0] : Fin 3 → ℕ) a + (![1, 512, 1280] : Fin 3 → ℕ) a ≤ (![2, 512, 1280] : Fin 3 → ℕ) a := by
  fin_cases a
  · show b.val + 1 ≤ 2; omega
  · show 0 + 512 ≤ 512; omega
  · show 0 + 1280 ≤ 1280; omega

section
variable (c : Dev nD) (i : grid0.Coords) (arg1 : Memref sig .tc .vmem S2x512x1280 .bf16) (harg1 : arg1.IsWhole)
  (arg2 : Memref sig .tc .vmem S22x2x1280x128 .fp8e4m3) (harg2 : arg2.IsWhole) (arg3 : Memref sig .tc .vmem S22x2x128 .f32) (harg3 : arg3.IsWhole)
  (arg4 : Memref sig .tc .vmem S2x512x2816 .fp8e4m3) (harg4 : arg4.IsWhole) (arg5 : Memref sig .tc .vmem S22x2x512 .f32) (harg5 : arg5.IsWhole)
  (arg6 : Memref sig .tc .vmem S2x512x1280 .fp8e4m3) (harg6 : arg6.IsWhole) (arg7 : Memref sig .tc .vmem S2x1x512 .f32) (harg7 : arg7.IsWhole)
  (arg8 : Memref sig .tc .vmem S2x512x128 .f32) (harg8 : arg8.IsWhole) (arg9 : Memref sig .tc .vmem S2x512x128 .f32) (harg9 : arg9.IsWhole)
  (v1520 : FVec Ideal S32x1280 .bf16) (v1545 : FVec Ideal S32x128 .f32) (v1548 : FVec Ideal S32x1 .f32)
  (X_arg2 : BufTy.Contents (Elt Ideal) arg2.view.ty) (X_arg3 : BufTy.Contents (Elt Ideal) arg3.view.ty)
  (X_arg6 : BufTy.Contents (Elt Ideal) arg6.view.ty) (X_arg9 : BufTy.Contents (Elt Ideal) arg9.view.ty)
  (k : Fin k0_t1_loop.trips)

/-- The hidden rows of one chunk in one group, read from the arrays in memory. -/
def tripHid (q : Fin 2 × Fin 16) : FVec Ideal S32x128 .f32 :=
  hidV (32 * q.2.val) (row_le q)
    (k0_pay5 (View.readAt (Elt Ideal) arg2.view (Rect.unit (s := S22x2x1280x128) (k0_off1 k) S1x1x1280x128.size (k0_off1_inb k)).toLoadRect X_arg2)
      (View.readAt (Elt Ideal) arg2.view (Rect.unit (s := S22x2x1280x128) (k0_off2 k) S1x1x1280x128.size (k0_off2_inb k)).toLoadRect X_arg2)
      (View.readAt (Elt Ideal) arg6.view (Rect.unit (s := S2x512x1280) ![q.1.val, 0, 0] S1x512x1280.size (inb_batch q.1)).toLoadRect X_arg6))
    (k0_pay3 (View.readAt (Elt Ideal) arg3.view (Rect.unit (s := S22x2x128) (k0_off3 k) S1x1x128.size (k0_off3_inb k)).toLoadRect X_arg3))
    (k0_pay4 (View.readAt (Elt Ideal) arg3.view (Rect.unit (s := S22x2x128) (k0_off4 k) S1x1x128.size (k0_off4_inb k)).toLoadRect X_arg3))
    (View.readAt (Elt Ideal) arg9.view (Rect.unit (s := S2x512x128) ![q.1.val, 32 * q.2.val, 0] S1x32x128.size (inb_rows 128 128 le_rfl q)).toLoadRect X_arg9)

/-- A chunk of one group of codes lies inside the array. -/
theorem inb_hc (q : Fin 2 × Fin 16) (a : Fin 3) :
    (![q.1.val, 32 * q.2.val, k0_off6 k 2] : Fin 3 → ℕ) a + (![1, 32, 128] : Fin 3 → ℕ) a ≤ (![2, 512, 2816] : Fin 3 → ℕ) a := by
  have := row_le q
  have h := congrFun (k0_off6_eq k) 2
  have hk := k.isLt
  have ht : k0_t1_loop.trips ≤ 22 := by decide +kernel
  fin_cases a
  · show q.1.val + 1 ≤ 2; omega
  · show 32 * q.2.val + 32 ≤ 512; omega
  · show k0_off6 k 2 + 128 ≤ 2816
    rw [h]
    show 128 * k.val + 128 ≤ 2816
    omega

/-- A chunk of one lane lies inside the array. -/
theorem inb_am (q : Fin 2 × Fin 16) (a : Fin 3) :
    (![q.1.val, 32 * q.2.val, k0_off5 k 2] : Fin 3 → ℕ) a + (![1, 32, 1] : Fin 3 → ℕ) a ≤ (![2, 512, 128] : Fin 3 → ℕ) a := by
  have := row_le q
  have h := congrFun (k0_off5_eq k) 2
  have hk := k.isLt
  have ht := trips_eq
  fin_cases a
  · show q.1.val + 1 ≤ 2; omega
  · show 32 * q.2.val + 32 ≤ 512; omega
  · show k0_off5 k 2 + 1 ≤ 128
    rw [h]
    show k.val + 1 ≤ 128
    omega

/-- The codes one trip stores for one chunk. -/
def hcP (q : Fin 2 × Fin 16) : View.Piece (Elt Ideal) S2x512x2816 .fp8e4m3 :=
  ⟨Rect.unit (s := S2x512x2816) ![q.1.val, 32 * q.2.val, k0_off6 k 2] S1x32x128.size (inb_hc k q), codeV (tripHid arg2 arg3 arg6 arg9 X_arg2 X_arg3 X_arg6 X_arg9 k q)⟩

/-- The largest magnitudes one trip stores for one chunk. -/
def amP (q : Fin 2 × Fin 16) : View.Piece (Elt Ideal) S2x512x128 .f32 :=
  ⟨Rect.unit (s := S2x512x128) ![q.1.val, 32 * q.2.val, k0_off5 k 2] S1x32x1.size (inb_am k q), amaxV (tripHid arg2 arg3 arg6 arg9 X_arg2 X_arg3 X_arg6 X_arg9 k q)⟩

/-- One trip's stores of codes are the 32 chunks'. -/
theorem trip_hc : (trip_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 k).1 = chunks.map (hcP arg2 arg3 arg6 arg9 X_arg2 X_arg3 X_arg6 X_arg9 k) := by
  unfold trip_k0_t1
  sl_kernel_rfl

/-- One trip's stores of magnitudes are the 32 chunks'. -/
theorem trip_am : (trip_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 k).2.1 = chunks.map (amP arg2 arg3 arg6 arg9 X_arg2 X_arg3 X_arg6 X_arg9 k) := by
  unfold trip_k0_t1
  sl_kernel_rfl

/-- The loop's stores of codes are the chunks' of the trips before `n`. -/
theorem mem_hc (n : ℕ) (hn : n ≤ k0_t1_loop.trips) (p) :
    p ∈ (pb_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 n).1 ↔ ∃ k : Fin k0_t1_loop.trips, k.val < n ∧ ∃ q, hcP arg2 arg3 arg6 arg9 X_arg2 X_arg3 X_arg6 X_arg9 k q = p := by
  induction n with
  | zero => exact iff_of_false List.not_mem_nil fun ⟨k, h, _⟩ => absurd h (Nat.not_lt_zero _)
  | succ n ih =>
    rw [pb_k0_t1_succ (F := Ideal) Variants.none c none i arg1 harg1 arg2 harg2 arg3 harg3 arg4 harg4 arg5 harg5 arg6 harg6 arg7 harg7 arg8 harg8 arg9 harg9 v1520 v1545 v1548 X_arg2 X_arg3 X_arg6 X_arg9 ⟨n, hn⟩]
    show p ∈ (trip_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 ⟨n, hn⟩).1 ++ _ ↔ _
    rw [List.mem_append, ih (Nat.le_of_succ_le hn), trip_hc, List.mem_map]
    constructor
    · rintro (⟨q, _, h⟩ | ⟨k, hk, h⟩)
      exacts [⟨⟨n, hn⟩, Nat.lt_succ_self n, q, h⟩, ⟨k, Nat.lt_succ_of_lt hk, h⟩]
    · rintro ⟨k, hk, q, h⟩
      rcases Nat.lt_succ_iff_lt_or_eq.mp hk with hk | hk
      · exact .inr ⟨k, hk, q, h⟩
      · obtain rfl : k = ⟨n, hn⟩ := Fin.ext hk
        exact .inl ⟨q, mem_chunks q, h⟩

/-- The loop's stores of magnitudes are the chunks' of the trips before `n`. -/
theorem mem_am (n : ℕ) (hn : n ≤ k0_t1_loop.trips) (p) :
    p ∈ (pb_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 n).2 ↔ ∃ k : Fin k0_t1_loop.trips, k.val < n ∧ ∃ q, amP arg2 arg3 arg6 arg9 X_arg2 X_arg3 X_arg6 X_arg9 k q = p := by
  induction n with
  | zero => exact iff_of_false List.not_mem_nil fun ⟨k, h, _⟩ => absurd h (Nat.not_lt_zero _)
  | succ n ih =>
    rw [pb_k0_t1_succ (F := Ideal) Variants.none c none i arg1 harg1 arg2 harg2 arg3 harg3 arg4 harg4 arg5 harg5 arg6 harg6 arg7 harg7 arg8 harg8 arg9 harg9 v1520 v1545 v1548 X_arg2 X_arg3 X_arg6 X_arg9 ⟨n, hn⟩]
    show p ∈ (trip_k0_t1 (F := Ideal) Variants.none c none i arg1 harg1 arg2 harg2 arg3 harg3 arg4 harg4 arg5 harg5 arg6 harg6 arg7 harg7 arg8 harg8 arg9 harg9 v1520 v1545 v1548 X_arg2 X_arg3 X_arg6 X_arg9 ⟨n, hn⟩).2.1 ++ _ ↔ _
    rw [List.mem_append, ih (Nat.le_of_succ_le hn), trip_am, List.mem_map]
    constructor
    · rintro (⟨q, _, h⟩ | ⟨k, hk, h⟩)
      exacts [⟨⟨n, hn⟩, Nat.lt_succ_self n, q, h⟩, ⟨k, Nat.lt_succ_of_lt hk, h⟩]
    · rintro ⟨k, hk, q, h⟩
      rcases Nat.lt_succ_iff_lt_or_eq.mp hk with hk | hk
      · exact .inr ⟨k, hk, q, h⟩
      · obtain rfl : k = ⟨n, hn⟩ := Fin.ext hk
        exact .inl ⟨q, mem_chunks q, h⟩

variable (X : Vec Ideal S2x512x1280 .bf16) (W : Vec Ideal S22x2x1280x128 .fp8e4m3) (S : Vec Ideal S22x2x128 .f32)
  (hW : arg2.view.read (Elt Ideal) X_arg2 = W) (hS : arg3.view.read (Elt Ideal) X_arg3 = S)
  (hXc : arg6.view.read (Elt Ideal) X_arg6 = gXc X) (hXs : arg9.view.read (Elt Ideal) X_arg9 = gXs X)

include hXc in
/-- The codes of `x` one batch loads. -/
theorem ldXc (b : Fin 2) (r : Fin 512) (d : Fin 1280) :
    View.readAt (Elt Ideal) arg6.view (Rect.unit (s := S2x512x1280) ![b.val, 0, 0] S1x512x1280.size (inb_batch b)).toLoadRect X_arg6 (ix3 0 r d) = kxCode (amax (brow X b r)) (brow X b r d) := by
  refine (View.ld_unit_apply_of _ _ _ _ _ (ix3 b r d) fun a => ?_).trans ((congrFun hXc _).trans (gXc_of X _ b r d rfl rfl rfl))
  fin_cases a
  exacts [rfl, (Nat.zero_add _).symm, (Nat.zero_add _).symm]

include hXs in
/-- The scales of `x` one chunk loads. -/
theorem ldXs (q : Fin 2 × Fin 16) (r : Fin 32) (l : Fin 128) :
    View.readAt (Elt Ideal) arg9.view (Rect.unit (s := S2x512x128) ![q.1.val, 32 * q.2.val, 0] S1x32x128.size (inb_rows 128 128 le_rfl q)).toLoadRect X_arg9 (ix3 0 r l) = kScale (amax (brow X q.1 ⟨32 * q.2.val + r.val, by omega⟩)) := by
  refine (View.ld_unit_apply_of _ _ _ _ _ (ix3 q.1 ⟨32 * q.2.val + r.val, by omega⟩ l) fun a => ?_).trans ((congrFun hXs _).trans (gXs_of X _ _ _ rfl rfl))
  fin_cases a
  exacts [rfl, rfl, (Nat.zero_add _).symm]

include hW in
/-- The first weight of a group. -/
theorem ldW0 (d : Fin 1280) (j : Fin 128) :
    View.readAt (Elt Ideal) arg2.view (Rect.unit (s := S22x2x1280x128) (k0_off1 k) S1x1x1280x128.size (k0_off1_inb k)).toLoadRect X_arg2 (ix4 0 0 d j) = W (ix4 (grp k) 0 d j) := by
  refine (View.ld_unit_apply_of _ _ _ _ _ (ix4 (grp k) 0 d j) fun a => ?_).trans (congrFun hW _)
  refine Eq.trans ?_ (congrArg (· + _) (congrFun (k0_off1_eq k) a).symm)
  fin_cases a
  exacts [rfl, rfl, (Nat.zero_add _).symm, (Nat.zero_add _).symm]

include hW in
/-- The second weight of a group. -/
theorem ldW1 (d : Fin 1280) (j : Fin 128) :
    View.readAt (Elt Ideal) arg2.view (Rect.unit (s := S22x2x1280x128) (k0_off2 k) S1x1x1280x128.size (k0_off2_inb k)).toLoadRect X_arg2 (ix4 0 0 d j) = W (ix4 (grp k) 1 d j) := by
  refine (View.ld_unit_apply_of _ _ _ _ _ (ix4 (grp k) 1 d j) fun a => ?_).trans (congrFun hW _)
  refine Eq.trans ?_ (congrArg (· + _) (congrFun (k0_off2_eq k) a).symm)
  fin_cases a
  exacts [rfl, rfl, (Nat.zero_add _).symm, (Nat.zero_add _).symm]

include hS in
/-- The first scale of a group. -/
theorem ldS0 (j : Fin 128) :
    View.readAt (Elt Ideal) arg3.view (Rect.unit (s := S22x2x128) (k0_off3 k) S1x1x128.size (k0_off3_inb k)).toLoadRect X_arg3 (ix3 0 0 j) = S (ix3 (grp k) 0 j) := by
  refine (View.ld_unit_apply_of _ _ _ _ _ (ix3 (grp k) 0 j) fun a => ?_).trans (congrFun hS _)
  refine Eq.trans ?_ (congrArg (· + _) (congrFun (k0_off3_eq k) a).symm)
  fin_cases a
  exacts [rfl, rfl, (Nat.zero_add _).symm]

include hS in
/-- The second scale of a group. -/
theorem ldS1 (j : Fin 128) :
    View.readAt (Elt Ideal) arg3.view (Rect.unit (s := S22x2x128) (k0_off4 k) S1x1x128.size (k0_off4_inb k)).toLoadRect X_arg3 (ix3 0 0 j) = S (ix3 (grp k) 1 j) := by
  refine (View.ld_unit_apply_of _ _ _ _ _ (ix3 (grp k) 1 j) fun a => ?_).trans (congrFun hS _)
  refine Eq.trans ?_ (congrArg (· + _) (congrFun (k0_off4_eq k) a).symm)
  fin_cases a
  exacts [rfl, rfl, (Nat.zero_add _).symm]

include hW hS hXc hXs

/-- A chunk's hidden rows are the block's. -/
theorem tripHid_at (q : Fin 2 × Fin 16) (r : Fin 32) (j : Fin 128) :
    tripHid arg2 arg3 arg6 arg9 X_arg2 X_arg3 X_arg6 X_arg9 k q (ix2 r j) = bhid X W S q.1 ⟨32 * q.2.val + r.val, by omega⟩ (grp k) j := by
  unfold tripHid
  refine (hidV_at _ _ _ _ _ _ _ _ _ _ _ r j ?_ ?_ (ldXs arg9 X_arg9 X hXs q r j) ((scale3_at _ j).trans (congrArg (· * gk) (ldS0 arg3 X_arg3 k S hS j)))
    ((scale4_at _ j).trans (congrArg (· * uk) (ldS1 arg3 X_arg3 k S hS j)))).trans rfl
  · refine (acc0_at _ _ _ ⟨32 * q.2.val + r.val, by omega⟩ j).trans (Finset.sum_congr rfl fun d _ => ?_)
    exact congr (congrArg _ (ldXc arg6 X_arg6 X hXc q.1 ⟨32 * q.2.val + r.val, by omega⟩ d)) (ldW0 arg2 X_arg2 k W hW d j)
  · refine (acc1_at _ _ _ ⟨32 * q.2.val + r.val, by omega⟩ j).trans (Finset.sum_congr rfl fun d _ => ?_)
    exact congr (congrArg _ (ldXc arg6 X_arg6 X hXc q.1 ⟨32 * q.2.val + r.val, by omega⟩ d)) (ldW1 arg2 X_arg2 k W hW d j)

/-- A chunk's codes are the array's. -/
theorem hcP_eq (q : Fin 2 × Fin 16) (x) : (hcP arg2 arg3 arg6 arg9 X_arg2 X_arg3 X_arg6 X_arg9 k q).2 x = gHc X W S ((hcP arg2 arg3 arg6 arg9 X_arg2 X_arg3 X_arg6 X_arg9 k q).1.emb x) :=
  hc_piece X W S (b := q.1) (row_le q) (grp k) _ (tripHid_at arg2 arg3 arg6 arg9 X_arg2 X_arg3 X_arg6 X_arg9 k X W S hW hS hXc hXs q) _
    (congrArg (fun n => ![q.1.val, 32 * q.2.val, n]) (congrFun (k0_off6_eq k) 2)) (inb_hc k q) x

/-- A chunk's magnitudes are the array's. -/
theorem amP_eq (q : Fin 2 × Fin 16) (x) : (amP arg2 arg3 arg6 arg9 X_arg2 X_arg3 X_arg6 X_arg9 k q).2 x = gAm X W S ((amP arg2 arg3 arg6 arg9 X_arg2 X_arg3 X_arg6 X_arg9 k q).1.emb x) :=
  am_piece X W S (b := q.1) (row_le q) (grp k) _ (tripHid_at arg2 arg3 arg6 arg9 X_arg2 X_arg3 X_arg6 X_arg9 k X W S hW hS hXc hXs q) _
    (congrArg (fun n => ![q.1.val, 32 * q.2.val, n]) (congrFun (k0_off5_eq k) 2)) (inb_am k q) x

end

end Cert.KernelIdeal.Run

end
-- ==== Proof.Point.lean ====
/- What one grid point leaves in its four output blocks. -/
module

public import proofs.«01_k».proof.Proof.Trip
public import proofs.«01_k».proof.Proof.Gen.KernelIdeal.Value
import all proofs.«01_k».proof.Proof.Gen.KernelIdeal.Frame.RunA

@[expose] public section

set_option maxRecDepth 65536

noncomputable section

namespace Cert.KernelIdeal.Run

open Cert.KernelIdeal Cert.KernelIdeal.Gen Idealize.ShloMosaic Idealize.ShloMosaic.TcCoe Idealize.SL.Sem Cert.Spec Cert.Elem

/-! ## The scales of the hidden rows from the array of magnitudes -/

/-- Lane by row. -/
abbrev tailT (v : Vec Ideal S1x512x128 .f32) : FVec Ideal S128x512 .f32 :=
  transpose S128x512 [1, 0] (shapeCast S512x128 v shapeCasts_S1x512x128_S512x128 : FVec Ideal S512x128 .f32) transposes_S512x128_p1_0_S128x512
/-- The lanes of the 22 groups. -/
abbrev tailH (v : Vec Ideal S1x512x128 .f32) : FVec Ideal S22x512 .f32 := extractStridedSlice S22x512 ![0, 0] (tailT v) slices_S128x512_o0_0_S22x512
/-- The lane of the scale of `x`. -/
abbrev tailX (v : Vec Ideal S1x512x128 .f32) : FVec Ideal S1x512 .f32 := extractStridedSlice S1x512 ![22, 0] (tailT v) slices_S128x512_o22_0_S1x512
/-- The scales of the hidden rows. -/
abbrev hsV (v : Vec Ideal S1x512x128 .f32) : FVec Ideal S22x1x512 .f32 :=
  shapeCast S22x1x512 (mulf (scaleV (tailH v)) (broadcastTo S22x512 (tailX v) broadcasts_S1x512_S22x512)) shapeCasts_S22x512_S22x1x512
/-- The scales of `x`. -/
abbrev xsV (v : Vec Ideal S1x512x128 .f32) : FVec Ideal S1x1x512 .f32 := shapeCast S1x1x512 (tailX v) shapeCasts_S1x512_S1x1x512

/-- The first 22 lanes of the transposed maxima, at an index. -/
theorem tailH_at (v : FVec Ideal S1x512x128 .f32) (g : Fin 22) (r : Fin 512) : tailH v (ix2 g r) = v (ix3 0 r ⟨g.val, by omega⟩) := by
  have h : extractStridedSlice S22x512 ![0, 0] (transpose S128x512 [1, 0] (shapeCast S512x128 v shapeCasts_S1x512x128_S512x128 : FVec Ideal S512x128 .f32) transposes_S512x128_p1_0_S128x512 : FVec Ideal S128x512 .f32) slices_S128x512_o0_0_S22x512 (ix2 g r) = v (ix3 0 r ⟨g.val, by omega⟩) := by
    pointwise
  exact h

/-- Lane 22 of the transposed maxima, at an index. -/
theorem tailX_at (v : FVec Ideal S1x512x128 .f32) (r : Fin 512) : tailX v (ix2 0 r) = v (ix3 0 r 22) := by
  have h : extractStridedSlice S1x512 ![22, 0] (transpose S128x512 [1, 0] (shapeCast S512x128 v shapeCasts_S1x512x128_S512x128 : FVec Ideal S512x128 .f32) transposes_S512x128_p1_0_S128x512 : FVec Ideal S128x512 .f32) slices_S128x512_o22_0_S1x512 (ix2 0 r) = v (ix3 0 r 22) := by
    pointwise
  exact h

/-- A row spread over the 22 groups, at an index. -/
theorem row_at (x : FVec Ideal S1x512 .f32) (g : Fin 22) (r : Fin 512) : broadcastTo S22x512 x broadcasts_S1x512_S22x512 (ix2 g r) = x (ix2 0 r) := by
  pointwise

/-- The hidden scales with a unit axis added, at an index. -/
theorem cast22_at (x : FVec Ideal S22x512 .f32) (g : Fin 22) (r : Fin 512) : (shapeCast S22x1x512 x shapeCasts_S22x512_S22x1x512 : FVec Ideal S22x1x512 .f32) (ix3 g 0 r) = x (ix2 g r) := by
  pointwise

/-- The row scales with a unit axis added, at an index. -/
theorem cast1_at (x : FVec Ideal S1x512 .f32) (r : Fin 512) : (shapeCast S1x1x512 x shapeCasts_S1x512_S1x1x512 : FVec Ideal S1x1x512 .f32) (ix3 0 0 r) = x (ix2 0 r) := by
  pointwise

/-- The hidden scales as they are stored: the scale of the group times that of the row. -/
theorem hsV_at (v : Vec Ideal S1x512x128 .f32) (g : Fin 22) (r : Fin 512) :
    hsV v (ix3 g 0 r) = kScale (v (ix3 0 r ⟨g.val, by omega⟩)) * v (ix3 0 r 22) := by
  refine (cast22_at _ g r).trans ?_
  exact congr (congrArg _ ((scale_at _ _).trans (congrArg kScale (tailH_at v g r)))) ((row_at _ g r).trans (tailX_at v r))

/-- The row scales as they are stored are lane 22 of the maxima. -/
theorem xsV_at (v : Vec Ideal S1x512x128 .f32) (r : Fin 512) : xsV v (ix3 0 0 r) = v (ix3 0 r 22) :=
  (cast1_at _ r).trans (tailX_at v r)

section
variable (c : Dev nD) (i : grid0.Coords) (arg1 : Memref sig .tc .vmem S2x512x1280 .bf16) (harg1 : arg1.IsWhole)
  (arg2 : Memref sig .tc .vmem S22x2x1280x128 .fp8e4m3) (harg2 : arg2.IsWhole) (arg3 : Memref sig .tc .vmem S22x2x128 .f32) (harg3 : arg3.IsWhole)
  (arg4 : Memref sig .tc .vmem S2x512x2816 .fp8e4m3) (harg4 : arg4.IsWhole) (arg5 : Memref sig .tc .vmem S22x2x512 .f32) (harg5 : arg5.IsWhole)
  (arg6 : Memref sig .tc .vmem S2x512x1280 .fp8e4m3) (harg6 : arg6.IsWhole) (arg7 : Memref sig .tc .vmem S2x1x512 .f32) (harg7 : arg7.IsWhole)
  (arg8 : Memref sig .tc .vmem S2x512x128 .f32) (harg8 : arg8.IsWhole) (arg9 : Memref sig .tc .vmem S2x512x128 .f32) (harg9 : arg9.IsWhole)
  (x0 : Vec Ideal S2x512x1280 .bf16) (x1 : Vec Ideal S22x2x1280x128 .fp8e4m3) (x2 : Vec Ideal S22x2x128 .f32)

/-! ## The chunks of `x` -/

/-- The 32 rows of `x` one chunk loads. -/
def xRows (q : Fin 2 × Fin 16) : FVec Ideal S32x1280 .bf16 :=
  rowsV (View.readAt (Elt Ideal) arg1.view (Rect.unit (s := S2x512x1280) ![q.1.val, 32 * q.2.val, 0] S1x32x1280.size (inb_rows 1280 1280 le_rfl q)).toLoadRect (harg1.unread x0))

/-- The codes one chunk stores. -/
def xcP (q : Fin 2 × Fin 16) : View.Piece (Elt Ideal) S2x512x1280 .fp8e4m3 :=
  ⟨Rect.unit (s := S2x512x1280) ![q.1.val, 32 * q.2.val, 0] S1x32x1280.size (inb_rows 1280 1280 le_rfl q), xCodeV (xRows arg1 harg1 x0 q) (xScaleV (xRows arg1 harg1 x0 q))⟩

/-- The scales one chunk stores. -/
def xsP (q : Fin 2 × Fin 16) : View.Piece (Elt Ideal) S2x512x128 .f32 :=
  ⟨Rect.unit (s := S2x512x128) ![q.1.val, 32 * q.2.val, 0] S1x32x128.size (inb_rows 128 128 le_rfl q), xScaleS (xRows arg1 harg1 x0 q)⟩

/-- The stores of codes of `x` are the 32 chunks'. -/
theorem H5_eq : kernelRun0_A.sl.H5_32 (F := Ideal) c arg1 harg1 x0 = chunks.map (xcP arg1 harg1 x0) := by
  sl_kernel_rfl

/-- The stores of scales of `x` are the 32 chunks'. -/
theorem HS1_eq : kernelRun0_A.sl.HS1_32 (F := Ideal) c arg1 harg1 x0 = chunks.map (xsP arg1 harg1 x0) := by
  sl_kernel_rfl

/-- The first stores to the array of magnitudes are the 32 chunks' scales. -/
theorem HS0_eq : kernelRun0_A.sl.HS0_32 (F := Ideal) c arg1 harg1 x0 = chunks.map (xsP arg1 harg1 x0) := by
  sl_kernel_rfl

/-- A chunk of rows of `x` read from the block. -/
theorem xRows_at (q : Fin 2 × Fin 16) (r : Fin 32) (d : Fin 1280) : xRows arg1 harg1 x0 q (ix2 r d) = brow x0 q.1 ⟨32 * q.2.val + r.val, by omega⟩ d := by
  refine (rowsV_at _ r d).trans ?_
  refine (View.ld_unit_apply_of _ _ _ _ _ (ix3 q.1 ⟨32 * q.2.val + r.val, by omega⟩ d) fun a => ?_).trans (congrFun (harg1.read_unread x0) _)
  fin_cases a
  exacts [rfl, rfl, (Nat.zero_add _).symm]

/-- A stored piece of codes of `x` holds what the block of codes has there. -/
theorem xcP_eq (q : Fin 2 × Fin 16) (x) : (xcP arg1 harg1 x0 q).2 x = gXc x0 ((xcP arg1 harg1 x0 q).1.emb x) :=
  xc_piece x0 (b := q.1) (row_le q) _ (xRows_at arg1 harg1 x0 q) _ rfl (inb_rows 1280 1280 le_rfl q) x

/-- A stored piece of row scales holds what the block of row scales has there. -/
theorem xsP_eq (q : Fin 2 × Fin 16) (x) : (xsP arg1 harg1 x0 q).2 x = gXs x0 ((xsP arg1 harg1 x0 q).1.emb x) :=
  xs_piece x0 (b := q.1) (row_le q) _ (xRows_at arg1 harg1 x0 q) _ rfl (inb_rows 128 128 le_rfl q) x

/-- The chunk of a row. -/
def chunkOf (b : Fin 2) (r : Fin 512) : Fin 2 × Fin 16 := (b, ⟨r.val / 32, by omega⟩)

/-- Every index of the codes of `x` lies in the piece of its chunk. -/
theorem xc_mem (y : S2x512x1280.Idx) : y ∈ (xcP arg1 harg1 x0 (chunkOf (y 0) (y 1))).1.set := by
  refine (Rect.mem_set_unit (inb := inb_rows 1280 1280 le_rfl (chunkOf (y 0) (y 1)))).mpr fun a => ?_
  fin_cases a
  · exact ⟨le_rfl, Nat.lt_succ_self _⟩
  · exact ⟨Nat.mul_div_le _ _, by show (y 1).val < 32 * ((y 1).val / 32) + 32; omega⟩
  · exact ⟨Nat.zero_le _, by have := (y 2).isLt; show (y 2).val < 0 + 1280; exact (Nat.zero_add 1280).symm ▸ this⟩

/-- Every index of the row scales lies in the piece of its chunk. -/
theorem xs_mem (y : S2x512x128.Idx) : y ∈ (xsP arg1 harg1 x0 (chunkOf (y 0) (y 1))).1.set := by
  refine (Rect.mem_set_unit (inb := inb_rows 128 128 le_rfl (chunkOf (y 0) (y 1)))).mpr fun a => ?_
  fin_cases a
  · exact ⟨le_rfl, Nat.lt_succ_self _⟩
  · exact ⟨Nat.mul_div_le _ _, by show (y 1).val < 32 * ((y 1).val / 32) + 32; omega⟩
  · exact ⟨Nat.zero_le _, by have := (y 2).isLt; show (y 2).val < 0 + 128; exact (Nat.zero_add 128).symm ▸ this⟩

/-- Reading back the codes of `x`. -/
theorem xc_read {κ' : Kind} {sp : Space} (V : View sig κ' sp S2x512x1280 .fp8e4m3) (f) :
    V.read (Elt Ideal) (V.writes (Elt Ideal) f (chunks.map (xcP arg1 harg1 x0))) = gXc x0 := by
  funext y
  refine View.read_writes_apply_of_pieces V f _ _ (fun p hp x => ?_) y ⟨_, List.mem_map_of_mem (mem_chunks (chunkOf (y 0) (y 1))), xc_mem arg1 harg1 x0 y⟩
  obtain ⟨q, _, rfl⟩ := List.mem_map.mp hp
  exact xcP_eq arg1 harg1 x0 q x

/-- Reading back the scales of `x`. -/
theorem xs_read {κ' : Kind} {sp : Space} (V : View sig κ' sp S2x512x128 .f32) (f) :
    V.read (Elt Ideal) (V.writes (Elt Ideal) f (chunks.map (xsP arg1 harg1 x0))) = gXs x0 := by
  funext y
  refine View.read_writes_apply_of_pieces V f _ _ (fun p hp x => ?_) y ⟨_, List.mem_map_of_mem (mem_chunks (chunkOf (y 0) (y 1))), xs_mem arg1 harg1 x0 y⟩
  obtain ⟨q, _, rfl⟩ := List.mem_map.mp hp
  exact xsP_eq arg1 harg1 x0 q x

/-! ## The loop, run in full -/

/-- A piece of the loop's stores of codes is the array's. -/
theorem loop_hc (v w z) (p) (hp : p ∈ (pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (chunks.map (xcP arg1 harg1 x0))) (arg9.view.writes (Elt Ideal) arg9.view.junk (chunks.map (xsP arg1 harg1 x0))) k0_t1_loop.trips).1) (x) : p.2 x = gHc x0 x1 x2 (p.1.emb x) := by
  obtain ⟨k, _, q, rfl⟩ := (mem_hc c i arg1 harg1 arg2 harg2 arg3 harg3 arg4 harg4 arg5 harg5 arg6 harg6 arg7 harg7 arg8 harg8 arg9 harg9 v w z (harg2.unread x1) (harg3.unread x2) _ _ _ le_rfl p).mp hp
  exact hcP_eq arg2 arg3 arg6 arg9 (harg2.unread x1) (harg3.unread x2) (arg6.view.writes (Elt Ideal) arg6.view.junk (chunks.map (xcP arg1 harg1 x0))) (arg9.view.writes (Elt Ideal) arg9.view.junk (chunks.map (xsP arg1 harg1 x0))) k x0 x1 x2 (harg2.read_unread x1) (harg3.read_unread x2)
    (xc_read arg1 harg1 x0 arg6.view _) (xs_read arg1 harg1 x0 arg9.view _) q x

/-- The array of magnitudes after the loop. -/
theorem loop_am (v w z) : arg8.view.read (Elt Ideal) (arg8.view.writes (Elt Ideal) arg8.view.junk ((pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (chunks.map (xcP arg1 harg1 x0))) (arg9.view.writes (Elt Ideal) arg9.view.junk (chunks.map (xsP arg1 harg1 x0))) k0_t1_loop.trips).2 ++ chunks.map (xsP arg1 harg1 x0))) = gAm x0 x1 x2 := by
  funext y
  have hm := mem_am c i arg1 harg1 arg2 harg2 arg3 harg3 arg4 harg4 arg5 harg5 arg6 harg6 arg7 harg7 arg8 harg8 arg9 harg9 v w z (harg2.unread x1) (harg3.unread x2) (arg6.view.writes (Elt Ideal) arg6.view.junk (chunks.map (xcP arg1 harg1 x0))) (arg9.view.writes (Elt Ideal) arg9.view.junk (chunks.map (xsP arg1 harg1 x0))) _ le_rfl
  rw [View.writes_append]
  by_cases h : (y 2).val < 22
  · refine View.read_writes_apply_of_pieces arg8.view _ _ _ (fun p hp x => ?_) y
      ⟨_, (hm _).mpr ⟨⟨(y 2).val, trips_eq.symm ▸ h⟩, lt_of_lt_of_eq h trips_eq.symm, chunkOf (y 0) (y 1), rfl⟩, ?_⟩
    · obtain ⟨k, _, q, rfl⟩ := (hm p).mp hp
      exact amP_eq arg2 arg3 arg6 arg9 (harg2.unread x1) (harg3.unread x2) (arg6.view.writes (Elt Ideal) arg6.view.junk (chunks.map (xcP arg1 harg1 x0))) (arg9.view.writes (Elt Ideal) arg9.view.junk (chunks.map (xsP arg1 harg1 x0))) k x0 x1 x2 (harg2.read_unread x1) (harg3.read_unread x2)
        (xc_read arg1 harg1 x0 arg6.view _) (xs_read arg1 harg1 x0 arg9.view _) q x
    · refine (Rect.mem_set_unit (inb := inb_am ⟨(y 2).val, trips_eq.symm ▸ h⟩ (chunkOf (y 0) (y 1)))).mpr fun a => ?_
      fin_cases a
      · exact ⟨le_rfl, Nat.lt_succ_self _⟩
      · exact ⟨Nat.mul_div_le _ _, by show (y 1).val < 32 * ((y 1).val / 32) + 32; omega⟩
      · have e := congrFun (k0_off5_eq ⟨(y 2).val, trips_eq.symm ▸ h⟩) 2
        show k0_off5 _ 2 ≤ (y 2).val ∧ (y 2).val < k0_off5 _ 2 + 1
        rw [e]
        exact ⟨le_rfl, Nat.lt_succ_self _⟩
  · rw [View.read_writes_apply_of_forall_not_mem, xs_read arg1 harg1 x0]
    · unfold gAm
      rw [dif_neg h]
      rfl
    · intro p hp hy
      obtain ⟨k, _, q, rfl⟩ := (hm p).mp hp
      have hy2 : (y 2).val < k0_off5 k 2 + 1 := ((Rect.mem_set_unit (inb := inb_am k q)).mp hy 2).2
      rw [congrFun (k0_off5_eq k) 2] at hy2
      have := lt_of_lt_of_eq k.isLt trips_eq
      have h3 : (y 2).val < k.val + 1 := hy2
      omega

/-! ## The four output blocks -/

/-- The scales of the hidden rows. -/
def gHs : Vec Ideal S22x2x512 .f32 := fun y => kScale (amax (bhid x0 x1 x2 (y 1) (y 2) (y 0))) * kScale (amax (brow x0 (y 1) (y 2)))
/-- The scales of `x`, one per row. -/
def gXo : Vec Ideal S2x1x512 .f32 := fun y => kScale (amax (brow x0 (y 0) (y 2)))

/-- One batch of an array of 128 lanes. -/
theorem inb_scr (b : Fin 2) (a : Fin 3) :
    (![b.val, 0, 0] : Fin 3 → ℕ) a + (![1, 512, 128] : Fin 3 → ℕ) a ≤ (![2, 512, 128] : Fin 3 → ℕ) a := by
  fin_cases a
  · show b.val + 1 ≤ 2; omega
  · show 0 + 512 ≤ 512; omega
  · show 0 + 128 ≤ 128; omega

/-- One batch of the scales of the hidden rows. -/
theorem inb_hs (b : Fin 2) (a : Fin 3) :
    (![0, b.val, 0] : Fin 3 → ℕ) a + (![22, 1, 512] : Fin 3 → ℕ) a ≤ (![22, 2, 512] : Fin 3 → ℕ) a := by
  fin_cases a
  · show 0 + 22 ≤ 22; omega
  · show b.val + 1 ≤ 2; omega
  · show 0 + 512 ≤ 512; omega

/-- One batch of the scales of `x`. -/
theorem inb_xo (b : Fin 2) (a : Fin 3) :
    (![b.val, 0, 0] : Fin 3 → ℕ) a + (![1, 1, 512] : Fin 3 → ℕ) a ≤ (![2, 1, 512] : Fin 3 → ℕ) a := by
  fin_cases a
  · show b.val + 1 ≤ 2; omega
  · show 0 + 1 ≤ 1; omega
  · show 0 + 512 ≤ 512; omega

/-- One batch of the array of magnitudes. -/
def scr (f : BufTy.Contents (Elt Ideal) arg8.view.ty) (b : Fin 2) : Vec Ideal S1x512x128 .f32 :=
  View.readAt (Elt Ideal) arg8.view (Rect.unit (s := S2x512x128) ![b.val, 0, 0] S1x512x128.size (inb_scr b)).toLoadRect f

/-- One batch of the maxima, read back from the scratch buffer. -/
theorem scr_at (f : BufTy.Contents (Elt Ideal) arg8.view.ty) (h : arg8.view.read (Elt Ideal) f = gAm x0 x1 x2) (b : Fin 2) (r : Fin 512) (l : Fin 128) :
    scr arg8 f b (ix3 0 r l) = gAm x0 x1 x2 (ix3 b r l) := by
  refine (View.ld_unit_apply_of _ _ _ _ _ (ix3 b r l) fun a => ?_).trans (congrFun h _)
  fin_cases a
  exacts [rfl, (Nat.zero_add _).symm, (Nat.zero_add _).symm]

/-- One batch of the scales of the hidden rows, as stored. -/
def hsP (f : BufTy.Contents (Elt Ideal) arg8.view.ty) (b : Fin 2) : View.Piece (Elt Ideal) S22x2x512 .f32 :=
  ⟨Rect.unit (s := S22x2x512) ![0, b.val, 0] S22x1x512.size (inb_hs b), hsV (scr arg8 f b)⟩
/-- One batch of the scales of `x`, as stored. -/
def xoP (f : BufTy.Contents (Elt Ideal) arg8.view.ty) (b : Fin 2) : View.Piece (Elt Ideal) S2x1x512 .f32 :=
  ⟨Rect.unit (s := S2x1x512) ![b.val, 0, 0] S1x1x512.size (inb_xo b), xsV (scr arg8 f b)⟩

/-- A stored piece of hidden scales holds what the block of hidden scales has there. -/
theorem hsP_eq (f : BufTy.Contents (Elt Ideal) arg8.view.ty) (h : arg8.view.read (Elt Ideal) f = gAm x0 x1 x2) (b : Fin 2) (x) :
    (hsP arg8 f b).2 x = gHs x0 x1 x2 ((hsP arg8 f b).1.emb x) := by
  obtain ⟨g, z, r, rfl⟩ : ∃ (g : Fin 22) (z : Fin 1) (r : Fin 512), x = ix3 g z r := ⟨x 0, x 1, x 2, eq_ix3 x⟩
  obtain rfl : z = 0 := Subsingleton.elim _ _
  refine (hsV_at _ g r).trans ?_
  rw [scr_at arg8 x0 x1 x2 f h, scr_at arg8 x0 x1 x2 f h, gAm_of x0 x1 x2 _ b r g rfl rfl rfl]
  have e0 : (hsP arg8 f b).1.emb (ix3 g 0 r) 0 = g := Fin.ext ((ValueKit.rect_emb_unit_val _ _ (inb_hs b) _ _).trans (Nat.zero_add _))
  have e1 : (hsP arg8 f b).1.emb (ix3 g 0 r) 1 = b := Fin.ext (ValueKit.rect_emb_unit_val _ _ (inb_hs b) _ _)
  have e2 : (hsP arg8 f b).1.emb (ix3 g 0 r) 2 = r := Fin.ext ((ValueKit.rect_emb_unit_val _ _ (inb_hs b) _ _).trans (Nat.zero_add _))
  unfold gHs
  rw [e0, e1, e2]
  rfl

/-- A stored piece of the scales of `x` holds what the block of scales has there. -/
theorem xoP_eq (f : BufTy.Contents (Elt Ideal) arg8.view.ty) (h : arg8.view.read (Elt Ideal) f = gAm x0 x1 x2) (b : Fin 2) (x) :
    (xoP arg8 f b).2 x = gXo x0 ((xoP arg8 f b).1.emb x) := by
  obtain ⟨y, z, r, rfl⟩ : ∃ (y : Fin 1) (z : Fin 1) (r : Fin 512), x = ix3 y z r := ⟨x 0, x 1, x 2, eq_ix3 x⟩
  obtain rfl : y = 0 := Subsingleton.elim _ _
  obtain rfl : z = 0 := Subsingleton.elim _ _
  show xsV (scr arg8 f b) (ix3 0 0 r) = _
  rw [xsV_at, scr_at arg8 x0 x1 x2 f h]
  have e0 : (xoP arg8 f b).1.emb (ix3 0 0 r) 0 = b := Fin.ext (ValueKit.rect_emb_unit_val _ _ (inb_xo b) _ _)
  have e2 : (xoP arg8 f b).1.emb (ix3 0 0 r) 2 = r := Fin.ext ((ValueKit.rect_emb_unit_val _ _ (inb_xo b) _ _).trans (Nat.zero_add _))
  unfold gXo
  rw [e0, e2]
  rfl

/-- The run's stores, output by output. -/
theorem run_eq : ∃ v w z, ∃ f : BufTy.Contents (Elt Ideal) arg8.view.ty,
    f = arg8.view.writes (Elt Ideal) arg8.view.junk ((pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (chunks.map (xcP arg1 harg1 x0))) (arg9.view.writes (Elt Ideal) arg9.view.junk (chunks.map (xsP arg1 harg1 x0))) k0_t1_loop.trips).2 ++ chunks.map (xsP arg1 harg1 x0)) ∧
    (kernelRun0_A (F := Ideal) c i arg1 harg1 arg2 harg2 arg3 harg3 arg4 harg4 arg5 harg5 arg6 harg6 arg7 harg7 arg8 harg8 arg9 harg9 x0 x1 x2).1 = (pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (chunks.map (xcP arg1 harg1 x0))) (arg9.view.writes (Elt Ideal) arg9.view.junk (chunks.map (xsP arg1 harg1 x0))) k0_t1_loop.trips).1 ∧
    (kernelRun0_A (F := Ideal) c i arg1 harg1 arg2 harg2 arg3 harg3 arg4 harg4 arg5 harg5 arg6 harg6 arg7 harg7 arg8 harg8 arg9 harg9 x0 x1 x2).2.1 = [hsP arg8 f 1, hsP arg8 f 0] ∧
    (kernelRun0_A (F := Ideal) c i arg1 harg1 arg2 harg2 arg3 harg3 arg4 harg4 arg5 harg5 arg6 harg6 arg7 harg7 arg8 harg8 arg9 harg9 x0 x1 x2).2.2.1 = chunks.map (xcP arg1 harg1 x0) ∧
    (kernelRun0_A (F := Ideal) c i arg1 harg1 arg2 harg2 arg3 harg3 arg4 harg4 arg5 harg5 arg6 harg6 arg7 harg7 arg8 harg8 arg9 harg9 x0 x1 x2).2.2.2.1 = [xoP arg8 f 1, xoP arg8 f 0] := by
  have key : ∃ v w z, ∃ f : BufTy.Contents (Elt Ideal) arg8.view.ty,
    f = arg8.view.writes (Elt Ideal) arg8.view.junk ((pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (kernelRun0_A.sl.H5_32 (F := Ideal) c arg1 harg1 x0)) (arg9.view.writes (Elt Ideal) arg9.view.junk (kernelRun0_A.sl.HS1_32 (F := Ideal) c arg1 harg1 x0)) k0_t1_loop.trips).2 ++ kernelRun0_A.sl.HS0_32 (F := Ideal) c arg1 harg1 x0) ∧
    (kernelRun0_A (F := Ideal) c i arg1 harg1 arg2 harg2 arg3 harg3 arg4 harg4 arg5 harg5 arg6 harg6 arg7 harg7 arg8 harg8 arg9 harg9 x0 x1 x2).1 = (pb_k0_t1 (F := Ideal) Variants.none c none i arg1 harg1 arg2 harg2 arg3 harg3 arg4 harg4 arg5 harg5 arg6 harg6 arg7 harg7 arg8 harg8 arg9 harg9 v w z (harg2.unread x1) (harg3.unread x2) (arg6.view.writes (Elt Ideal) arg6.view.junk (kernelRun0_A.sl.H5_32 (F := Ideal) c arg1 harg1 x0)) (arg9.view.writes (Elt Ideal) arg9.view.junk (kernelRun0_A.sl.HS1_32 (F := Ideal) c arg1 harg1 x0)) k0_t1_loop.trips).1 ∧
    (kernelRun0_A (F := Ideal) c i arg1 harg1 arg2 harg2 arg3 harg3 arg4 harg4 arg5 harg5 arg6 harg6 arg7 harg7 arg8 harg8 arg9 harg9 x0 x1 x2).2.1 = [hsP arg8 f 1, hsP arg8 f 0] ∧
    (kernelRun0_A (F := Ideal) c i arg1 harg1 arg2 harg2 arg3 harg3 arg4 harg4 arg5 harg5 arg6 harg6 arg7 harg7 arg8 harg8 arg9 harg9 x0 x1 x2).2.2.1 = kernelRun0_A.sl.H5_32 (F := Ideal) c arg1 harg1 x0 ∧
    (kernelRun0_A (F := Ideal) c i arg1 harg1 arg2 harg2 arg3 harg3 arg4 harg4 arg5 harg5 arg6 harg6 arg7 harg7 arg8 harg8 arg9 harg9 x0 x1 x2).2.2.2.1 = [xoP arg8 f 1, xoP arg8 f 0] := by
    unfold kernelRun0_A
    dsimp only
    exact ⟨_, _, _, _, rfl, rfl, rfl, rfl, rfl⟩
  rw [H5_eq, HS1_eq] at key
  obtain ⟨v, w, z, f, hf, h⟩ := key
  exact ⟨v, w, z, f, hf.trans (congrArg (fun L => arg8.view.writes (Elt Ideal) arg8.view.junk (_ ++ L)) (HS0_eq c arg1 harg1 x0)), h⟩

/-- The codes of the hidden rows. -/
theorem out3_eq : out0_A_3 (F := Ideal) c i arg1 harg1 arg2 harg2 arg3 harg3 arg4 harg4 arg5 harg5 arg6 harg6 arg7 harg7 arg8 harg8 arg9 harg9 x0 x1 x2 = gHc x0 x1 x2 := by
  obtain ⟨v, w, z, f, hf, h1, h2, h3, h4⟩ := run_eq c i arg1 harg1 arg2 harg2 arg3 harg3 arg4 harg4 arg5 harg5 arg6 harg6 arg7 harg7 arg8 harg8 arg9 harg9 x0 x1 x2
  funext y
  refine View.read_writes_apply_of_pieces _ _ _ _ (fun p hp x => ?_) y (cover0_A_3 c i arg1 harg1 arg2 harg2 arg3 harg3 arg4 harg4 arg5 harg5 arg6 harg6 arg7 harg7 arg8 harg8 arg9 harg9 x0 x1 x2 y)
  rw [h1] at hp
  exact loop_hc c i arg1 harg1 arg2 harg2 arg3 harg3 arg4 harg4 arg5 harg5 arg6 harg6 arg7 harg7 arg8 harg8 arg9 harg9 x0 x1 x2 v w z p hp x

/-- The scales of the hidden rows. -/
theorem out4_eq : out0_A_4 (F := Ideal) c i arg1 harg1 arg2 harg2 arg3 harg3 arg4 harg4 arg5 harg5 arg6 harg6 arg7 harg7 arg8 harg8 arg9 harg9 x0 x1 x2 = gHs x0 x1 x2 := by
  obtain ⟨v, w, z, f, hf, h1, h2, h3, h4⟩ := run_eq c i arg1 harg1 arg2 harg2 arg3 harg3 arg4 harg4 arg5 harg5 arg6 harg6 arg7 harg7 arg8 harg8 arg9 harg9 x0 x1 x2
  have h := loop_am c i arg1 harg1 arg2 harg2 arg3 harg3 arg4 harg4 arg5 harg5 arg6 harg6 arg7 harg7 arg8 harg8 arg9 harg9 x0 x1 x2 v w z
  rw [← hf] at h
  funext y
  refine View.read_writes_apply_of_pieces _ _ _ _ (fun p hp x => ?_) y (cover0_A_4 c i arg1 harg1 arg2 harg2 arg3 harg3 arg4 harg4 arg5 harg5 arg6 harg6 arg7 harg7 arg8 harg8 arg9 harg9 x0 x1 x2 y)
  rw [h2] at hp
  rcases List.mem_pair.mp hp with rfl | rfl
  exacts [hsP_eq arg8 x0 x1 x2 f h 1 x, hsP_eq arg8 x0 x1 x2 f h 0 x]

/-- The codes of `x`. -/
theorem out5_eq : out0_A_5 (F := Ideal) c i arg1 harg1 arg2 harg2 arg3 harg3 arg4 harg4 arg5 harg5 arg6 harg6 arg7 harg7 arg8 harg8 arg9 harg9 x0 x1 x2 = gXc x0 := by
  obtain ⟨v, w, z, f, hf, h1, h2, h3, h4⟩ := run_eq c i arg1 harg1 arg2 harg2 arg3 harg3 arg4 harg4 arg5 harg5 arg6 harg6 arg7 harg7 arg8 harg8 arg9 harg9 x0 x1 x2
  unfold out0_A_5
  rw [h3]
  exact xc_read arg1 harg1 x0 _ _

/-- The scales of `x`. -/
theorem out6_eq : out0_A_6 (F := Ideal) c i arg1 harg1 arg2 harg2 arg3 harg3 arg4 harg4 arg5 harg5 arg6 harg6 arg7 harg7 arg8 harg8 arg9 harg9 x0 x1 x2 = gXo x0 := by
  obtain ⟨v, w, z, f, hf, h1, h2, h3, h4⟩ := run_eq c i arg1 harg1 arg2 harg2 arg3 harg3 arg4 harg4 arg5 harg5 arg6 harg6 arg7 harg7 arg8 harg8 arg9 harg9 x0 x1 x2
  have h := loop_am c i arg1 harg1 arg2 harg2 arg3 harg3 arg4 harg4 arg5 harg5 arg6 harg6 arg7 harg7 arg8 harg8 arg9 harg9 x0 x1 x2 v w z
  rw [← hf] at h
  funext y
  refine View.read_writes_apply_of_pieces _ _ _ _ (fun p hp x => ?_) y (cover0_A_6 c i arg1 harg1 arg2 harg2 arg3 harg3 arg4 harg4 arg5 harg5 arg6 harg6 arg7 harg7 arg8 harg8 arg9 harg9 x0 x1 x2 y)
  rw [h4] at hp
  rcases List.mem_pair.mp hp with rfl | rfl
  exacts [xoP_eq arg8 x0 x1 x2 f h 1 x, xoP_eq arg8 x0 x1 x2 f h 0 x]

end

end Cert.KernelIdeal.Run

end
-- ==== Proof.KArr.lean ====
/- What the kernel leaves in its four result arrays, from what each grid point leaves in its blocks. -/
module

public import proofs.«01_k».proof.Proof.Point
public import Idealize.ShloMosaic.Lib.Pipeline.Value

@[expose] public section

set_option maxRecDepth 65536

noncomputable section

namespace Cert.KernelIdeal.Run

open Cert.KernelIdeal Cert.KernelIdeal.Gen Idealize.ShloMosaic Idealize.ShloMosaic.TcCoe Idealize.SL.Sem Cert.Spec Cert.Elem

/-! ## The arrays as functions of the arguments -/

section
variable (x : Vec Ideal S2x8192x1280 .bf16) (w : Vec Ideal S1280x22x2x128 .fp8e4m3) (s : Vec Ideal S22x2x128 .f32)

/-- A row of `x`. -/
def krow (b : Fin 2) (r : Fin 8192) : Fin 1280 → EReal := fun d => x (ix3 b r d)
/-- A hidden row, without its scale, in the group `g`. -/
def khid (b : Fin 2) (r : Fin 8192) (g : Fin 22) : Fin 128 → EReal :=
  kHid (krow x b r) (fun j d => w (ix4 d g 0 j)) (fun j d => w (ix4 d g 1 j)) (fun j => s (ix3 g 0 j)) (fun j => s (ix3 g 1 j))

/-- The codes of the hidden rows. -/
def aHc : Vec Ideal S2x8192x2816 .fp8e4m3 := fun y =>
  khCode (amax (khid x w s (y 0) (y 1) ⟨(y 2).val / 128, Nat.div_lt_of_lt_mul (y 2).isLt⟩))
    (khid x w s (y 0) (y 1) ⟨(y 2).val / 128, Nat.div_lt_of_lt_mul (y 2).isLt⟩ ⟨(y 2).val % 128, Nat.mod_lt _ (by decide)⟩)
/-- The scales of the hidden rows. -/
def aHs : Vec Ideal S22x2x8192 .f32 := fun y => kScale (amax (khid x w s (y 1) (y 2) (y 0))) * kScale (amax (krow x (y 1) (y 2)))
/-- The codes of `x`. -/
def aXc : Vec Ideal S2x8192x1280 .fp8e4m3 := fun y => kxCode (amax (krow x (y 0) (y 1))) (x y)
/-- The scales of `x`. -/
def aXs : Vec Ideal S2x1x8192 .f32 := fun y => kScale (amax (krow x (y 0) (y 2)))

/-! ## A block against the arrays -/

variable (X : Vec Ideal S2x512x1280 .bf16) (W : Vec Ideal S22x2x1280x128 .fp8e4m3) (S : Vec Ideal S22x2x128 .f32) (n : ℕ) (hn : 512 * n + 512 ≤ 8192)
  (hX : ∀ (b : Fin 2) (r : Fin 512) (d : Fin 1280), X (ix3 b r d) = x (ix3 b ⟨512 * n + r.val, by omega⟩ d))
  (hW : ∀ (g : Fin 22) (p : Fin 2) (d : Fin 1280) (j : Fin 128), W (ix4 g p d j) = w (ix4 d g p j)) (hS : S = s)
include hX

/-- A row of the block of `x` is a row of `x`. -/
theorem brow_eq (b : Fin 2) (r : Fin 512) : brow X b r = krow x b ⟨512 * n + r.val, by omega⟩ := funext fun d => hX b r d

/-- The block of codes of `x` is a block of the array of codes. -/
theorem gXc_arr (y : S2x512x1280.Idx) (z : S2x8192x1280.Idx) (h0 : (z 0).val = (y 0).val) (h1 : (z 1).val = 512 * n + (y 1).val) (h2 : (z 2).val = (y 2).val) :
    gXc X y = aXc x z := by
  obtain ⟨b, r, d, rfl⟩ : ∃ (b : Fin 2) (r : Fin 512) (d : Fin 1280), y = ix3 b r d := ⟨y 0, y 1, y 2, eq_ix3 y⟩
  have e : z = ix3 b ⟨512 * n + r.val, by omega⟩ d := (eq_ix3 z).trans (congr (congr (congrArg ix3 (Fin.ext h0)) (Fin.ext h1)) (Fin.ext h2))
  rw [e]
  show kxCode (amax (brow X b r)) (brow X b r d) = kxCode (amax (krow x b ⟨512 * n + r.val, by omega⟩)) (krow x b ⟨512 * n + r.val, by omega⟩ d)
  rw [brow_eq x X n hn hX]

/-- The block of scales of `x` is a block of the array of scales. -/
theorem gXo_arr (y : S2x1x512.Idx) (z : S2x1x8192.Idx) (h0 : (z 0).val = (y 0).val) (h2 : (z 2).val = 512 * n + (y 2).val) :
    gXo X y = aXs x z := by
  obtain ⟨b, o, r, rfl⟩ : ∃ (b : Fin 2) (o : Fin 1) (r : Fin 512), y = ix3 b o r := ⟨y 0, y 1, y 2, eq_ix3 y⟩
  have e : z = ix3 b 0 ⟨512 * n + r.val, by omega⟩ := (eq_ix3 z).trans (congr (congr (congrArg ix3 (Fin.ext h0)) (Subsingleton.elim (α := Fin 1) _ _)) (Fin.ext h2))
  rw [e]
  show kScale (amax (brow X b r)) = kScale (amax (krow x b ⟨512 * n + r.val, by omega⟩))
  rw [brow_eq x X n hn hX]

include hW hS

/-- A hidden row of the block is a hidden row of the array. -/
theorem bhid_eq (b : Fin 2) (r : Fin 512) (g : Fin 22) : bhid X W S b r g = khid x w s b ⟨512 * n + r.val, by omega⟩ g := by
  unfold bhid khid
  rw [brow_eq x X n hn hX, hS, show (fun (j : Fin 128) (d : Fin 1280) => W (ix4 g 0 d j)) = fun j d => w (ix4 d g 0 j) from funext fun j => funext fun d => hW g 0 d j,
    show (fun (j : Fin 128) (d : Fin 1280) => W (ix4 g 1 d j)) = fun j d => w (ix4 d g 1 j) from funext fun j => funext fun d => hW g 1 d j]

/-- The block of hidden codes is a block of the array of hidden codes. -/
theorem gHc_arr (y : S2x512x2816.Idx) (z : S2x8192x2816.Idx) (h0 : (z 0).val = (y 0).val) (h1 : (z 1).val = 512 * n + (y 1).val) (h2 : (z 2).val = (y 2).val) :
    gHc X W S y = aHc x w s z := by
  obtain ⟨b, r, k, rfl⟩ : ∃ (b : Fin 2) (r : Fin 512) (k : Fin 2816), y = ix3 b r k := ⟨y 0, y 1, y 2, eq_ix3 y⟩
  have e : z = ix3 b ⟨512 * n + r.val, by omega⟩ k := (eq_ix3 z).trans (congr (congr (congrArg ix3 (Fin.ext h0)) (Fin.ext h1)) (Fin.ext h2))
  rw [e]
  show khCode (amax (bhid X W S b r ⟨k.val / 128, by omega⟩)) (bhid X W S b r ⟨k.val / 128, by omega⟩ ⟨k.val % 128, by omega⟩)
    = khCode (amax (khid x w s b ⟨512 * n + r.val, by omega⟩ ⟨k.val / 128, by omega⟩)) (khid x w s b ⟨512 * n + r.val, by omega⟩ ⟨k.val / 128, by omega⟩ ⟨k.val % 128, by omega⟩)
  rw [bhid_eq x w s X W S n hn hX hW hS]

/-- The block of hidden scales is a block of the array of hidden scales. -/
theorem gHs_arr (y : S22x2x512.Idx) (z : S22x2x8192.Idx) (h0 : (z 0).val = (y 0).val) (h1 : (z 1).val = (y 1).val) (h2 : (z 2).val = 512 * n + (y 2).val) :
    gHs X W S y = aHs x w s z := by
  obtain ⟨g, b, r, rfl⟩ : ∃ (g : Fin 22) (b : Fin 2) (r : Fin 512), y = ix3 g b r := ⟨y 0, y 1, y 2, eq_ix3 y⟩
  have e : z = ix3 g b ⟨512 * n + r.val, by omega⟩ := (eq_ix3 z).trans (congr (congr (congrArg ix3 (Fin.ext h0)) (Fin.ext h1)) (Fin.ext h2))
  rw [e]
  show kScale (amax (bhid X W S b r g)) * kScale (amax (brow X b r))
    = kScale (amax (khid x w s b ⟨512 * n + r.val, by omega⟩ g)) * kScale (amax (krow x b ⟨512 * n + r.val, by omega⟩))
  rw [bhid_eq x w s X W S n hn hX hW hS, brow_eq x X n hn hX]

end

/-! ## The blocks of the arguments -/

variable (m : (ℓ : Loc nD τ sig) → Buf (Elt Ideal) ℓ)

/-- The argument `x`. -/
abbrev argX (c : Dev nD) : Vec Ideal S2x8192x1280 .bf16 := m ((c : Thread nD τ).loc main_arg0)
/-- The weights. -/
abbrev argW (c : Dev nD) : Vec Ideal S1280x22x2x128 .fp8e4m3 := m ((c : Thread nD τ).loc main_arg1)
/-- The scales of the weights. -/
abbrev argS (c : Dev nD) : Vec Ideal S22x2x128 .f32 := m ((c : Thread nD τ).loc main_arg2)

/-- Grid point `t` reads the block `t` of rows of `x`. -/
theorem ix0 : ∀ t : Fin cfg0.N, win0_0.index t = ![0, t.val, 0] := (by decide +kernel : ∀ t : Fin grid0.N, win0_0.index t = ![0, t.val, 0])
/-- Every grid point reads all the weights. -/
theorem ix1 : ∀ t : Fin cfg0.N, win0_1.index t = ![0, 0, 0, 0] := (by decide +kernel : ∀ t : Fin grid0.N, win0_1.index t = ![0, 0, 0, 0])
/-- Every grid point reads all the scales of the weights. -/
theorem ix2' : ∀ t : Fin cfg0.N, win0_2.index t = ![0, 0, 0] := (by decide +kernel : ∀ t : Fin grid0.N, win0_2.index t = ![0, 0, 0])
/-- Grid point `t` writes the block `t` of rows of the hidden codes. -/
theorem ix3' : ∀ t : Fin cfg0.N, win0_3.index t = ![0, t.val, 0] := (by decide +kernel : ∀ t : Fin grid0.N, win0_3.index t = ![0, t.val, 0])
/-- Grid point `t` writes the block `t` of the hidden scales. -/
theorem ix4' : ∀ t : Fin cfg0.N, win0_4.index t = ![0, 0, t.val] := (by decide +kernel : ∀ t : Fin grid0.N, win0_4.index t = ![0, 0, t.val])
/-- Grid point `t` writes the block `t` of rows of the codes of `x`. -/
theorem ix5 : ∀ t : Fin cfg0.N, win0_5.index t = ![0, t.val, 0] := (by decide +kernel : ∀ t : Fin grid0.N, win0_5.index t = ![0, t.val, 0])
/-- Grid point `t` writes the block `t` of the scales of `x`. -/
theorem ix6 : ∀ t : Fin cfg0.N, win0_6.index t = ![0, 0, t.val] := (by decide +kernel : ∀ t : Fin grid0.N, win0_6.index t = ![0, 0, t.val])

/-- The weights as the kernel takes them: group first. -/
theorem V_w (c : Dev nD) : (V m c main_v0 : Vec Ideal S22x2x1280x128 .fp8e4m3)
    = transpose S22x2x1280x128 [1, 2, 0, 3] (argW m c) transposes_S1280x22x2x128_S22x2x1280x128_1_2_0_3 := by
  unfold_abbrev_sides
  after_results

/-- The transposed weights at an index. -/
theorem perm_at (a : FVec Ideal S1280x22x2x128 .fp8e4m3) (g : Fin 22) (p : Fin 2) (d : Fin 1280) (j : Fin 128) :
    (transpose S22x2x1280x128 [1, 2, 0, 3] a transposes_S1280x22x2x128_S22x2x1280x128_1_2_0_3 : FVec Ideal S22x2x1280x128 .fp8e4m3) (ix4 g p d j) = a (ix4 d g p j) := by
  pointwise

/-- Point `t`'s block of `x` holds the 512 rows from `512 * t`. -/
theorem blkX (c : Dev nD) (t : Fin cfg0.N) (hn : 512 * t.val + 512 ≤ 8192) (b : Fin 2) (r : Fin 512) (d : Fin 1280) :
    (iblk m c 0 t : Vec Ideal S2x512x1280 .bf16) (ix3 b r d) = argX m c (ix3 b ⟨512 * t.val + r.val, by omega⟩ d) := by
  refine congrArg (m ((c : Thread nD τ).loc main_arg0)) ?_
  blk_ext [ix0]

/-- Every point's block of the weights is all of them. -/
theorem blkW (c : Dev nD) (t : Fin cfg0.N) (g : Fin 22) (p : Fin 2) (d : Fin 1280) (j : Fin 128) :
    (iblk m c 1 t : Vec Ideal S22x2x1280x128 .fp8e4m3) (ix4 g p d j) = argW m c (ix4 d g p j) := by
  refine Eq.trans ?_ ((congrFun (V_w m c) (ix4 g p d j)).trans (perm_at _ g p d j))
  refine congrArg (V m c main_v0) ?_
  blk_ext [ix1]

/-- Every point's block of the scales is all of them. -/
theorem blkS (c : Dev nD) (t : Fin cfg0.N) : (iblk m c 2 t : Vec Ideal S22x2x128 .f32) = argS m c := by
  funext y
  refine congrArg (m ((c : Thread nD τ).loc main_arg2)) ?_
  blk_ext [ix2']

/-- The rows of a grid point lie inside the array. -/
theorem rows_lt (t : Fin cfg0.N) : 512 * t.val + 512 ≤ 8192 := by
  have : t.val < 16 := t.isLt
  omega

/-! ## The result arrays -/

/-- Result 1, the codes of the hidden rows. -/
theorem arr3 (c : Dev nD) : ((dats m 0 c).arrAt 3 cfg0.N : Vec Ideal S2x8192x2816 .fp8e4m3) = aHc (argX m c) (argW m c) (argS m c) := by
  refine (dats m 0 c).arrAt_eq_of_covers 3 _ (by decide +kernel) fun t hf y => ?_
  blk_simp
  rw [after0_3]
  simp only [outsAt0]
  rw [out3_eq]
  refine gHc_arr (argX m c) (argW m c) (argS m c) _ _ _ t.val (rows_lt t) (blkX m c t (rows_lt t)) (blkW m c t) (blkS m c t) y _ ?_ ?_ ?_
  all_goals blk_simp [ix3']
  all_goals first | rfl | omega

/-- Result 2, the scales of the hidden rows. -/
theorem arr4 (c : Dev nD) : ((dats m 0 c).arrAt 4 cfg0.N : Vec Ideal S22x2x8192 .f32) = aHs (argX m c) (argW m c) (argS m c) := by
  refine (dats m 0 c).arrAt_eq_of_covers 4 _ (by decide +kernel) fun t hf y => ?_
  blk_simp
  rw [after0_4]
  simp only [outsAt0]
  rw [out4_eq]
  refine gHs_arr (argX m c) (argW m c) (argS m c) _ _ _ t.val (rows_lt t) (blkX m c t (rows_lt t)) (blkW m c t) (blkS m c t) y _ ?_ ?_ ?_
  all_goals blk_simp [ix4']
  all_goals first | rfl | omega

/-- Result 3, the codes of `x`. -/
theorem arr5 (c : Dev nD) : ((dats m 0 c).arrAt 5 cfg0.N : Vec Ideal S2x8192x1280 .fp8e4m3) = aXc (argX m c) := by
  refine (dats m 0 c).arrAt_eq_of_covers 5 _ (by decide +kernel) fun t hf y => ?_
  blk_simp
  rw [after0_5]
  simp only [outsAt0]
  rw [out5_eq]
  refine gXc_arr (argX m c) _ t.val (rows_lt t) (blkX m c t (rows_lt t)) y _ ?_ ?_ ?_
  all_goals blk_simp [ix5]
  all_goals first | rfl | omega

/-- Result 4, the scales of `x`. -/
theorem arr6 (c : Dev nD) : ((dats m 0 c).arrAt 6 cfg0.N : Vec Ideal S2x1x8192 .f32) = aXs (argX m c) := by
  refine (dats m 0 c).arrAt_eq_of_covers 6 _ (by decide +kernel) fun t hf y => ?_
  blk_simp
  rw [after0_6]
  simp only [outsAt0]
  rw [out6_eq]
  refine gXo_arr (argX m c) _ t.val (rows_lt t) (blkX m c t (rows_lt t)) y _ ?_ ?_
  all_goals blk_simp [ix6]
  all_goals first | rfl | omega

end Cert.KernelIdeal.Run

end
-- ==== Proof.RefRun.lean ====
/- What the reference leaves in its four result arrays: the frame run with every result array named, and each array's one
   block, which is the whole array. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the body's result for that window, read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x8192x2816.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window, read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S22x2x8192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window, read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x8192x1280.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window, read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x1x8192.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v13_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v13_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v13_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v13_3) = (dats m 0 c).arrAt 8 cfg0.N :=
  (h c).1 8

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 5 cfg0.N
      ∧ r.2.mem ((c : Thread nD τ).loc main_v13_1) = (dats m 0 c).arrAt 6 cfg0.N
      ∧ r.2.mem ((c : Thread nD τ).loc main_v13_2) = (dats m 0 c).arrAt 7 cfg0.N
      ∧ r.2.mem ((c : Thread nD τ).loc main_v13_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      post6 m r h c,
      post7 m r h c,
      post8 m r h c,
      kept_main_arg0 m r h c,
      kept_main_arg1 m r h c,
      kept_main_arg2 m r h c⟩)
    (run_main m ρ)

end Cert.ReferenceIdeal.Run

end
-- ==== Proof.RefVal.lean ====
/- The reference's payloads read at an index. -/
module

public import proofs.«01_k».proof.Proof.RefRun
public import proofs.«01_k».proof.Proof.Elem

@[expose] public section

set_option maxRecDepth 16384

noncomputable section

namespace Cert.ReferenceIdeal.Run

open Cert.ReferenceIdeal Cert.ReferenceIdeal.Gen Idealize.ShloMosaic Idealize.ShloMosaic.TcCoe Idealize.SL.Sem Cert.Spec Cert.Elem

/-- The named `1 / 448` is that of Spec. -/
theorem inv448_eq : (Named.named κ "inv448" 0x3B124925#32 : Ideal .f32) = c448 := rfl
/-- The named `1 / log 2` is that of Spec. -/
theorem log2e_eq : (Named.named κ "log2e" 0x3FB8AA3B#32 : Ideal .f32) = lg := rfl
/-- The named cubic coefficient is that of Spec. -/
theorem cubic_eq : (Named.named κ "cubic" 0x3D372713#32 : Ideal .f32) = cub := rfl
/-- The named `√(2 / π)` is that of Spec. -/
theorem sqrt_eq : (Named.named κ "sqrt_2_pi" 0x3F4C422A#32 : Ideal .f32) = s2p := rfl

/-! ## The quantiser of `x` -/

/-- The cast of `x` at an index is `x` there. -/
theorem pay4_at (v : Vec Ideal S16384x1280 .bf16) (i : S16384x1280.Idx) : k0_pay4 v i = v i := by
  unfold k0_pay4
  pointwise

/-- The largest magnitude of each row of a matrix. -/
theorem rowmax_at (w : FVec Ideal S16384x1280 .f32) (r : Fin 16384) :
    shapeCast S16384x1 (multiReduction .maximumf [1] S16384 (absf w) 0xFF800000#32 reduces_S16384x1280_S16384 (.inl rfl) rfl) shapeCasts_S16384_S16384x1 (ix2 r 0)
      = amax fun d => w (ix2 r d) := by
  pointwise
  rfl

/-- The largest magnitude of a row of `x`. -/
theorem pay5_at (v : Vec Ideal S16384x1280 .bf16) (r : Fin 16384) :
    k0_pay5 v (ix2 r 0) = amax fun d => v (ix2 r d) :=
  (rowmax_at (k0_pay4 v) r).trans (congrArg amax (funext fun _ => pay4_at v _))

/-- The exponent of a row of `x`. -/
theorem pay6_at (v : Vec Ideal S16384x1280 .bf16) (r : Fin 16384) :
    k0_pay6 v (ix2 r 0) = rExp (amax fun d => v (ix2 r d)) := by
  have h := (zsel_at (k0_pay5 v) (addf (floor (mulf (log (mulf (k0_pay5 v) (broadcast _ _))) (broadcast _ _)))
    (broadcast _ (bits 0x3F800000#32))) (ix2 r 0)).trans
      (congrArg (fun z => if k0_pay5 v (ix2 r 0) = 0 then 0 else z) (lexp1_at _ _ inv448_eq log2e_eq (k0_pay5 v) (ix2 r 0)))
  rw [pay5_at] at h
  exact h

/-- The scale of a row of `x`. -/
theorem pay7_at (v : Vec Ideal S16384x1280 .bf16) (r : Fin 16384) :
    k0_pay7 v (ix2 r 0) = rScale 1 (amax fun d => v (ix2 r d)) := by
  have h := ssel_at (k0_pay5 v) (broadcast _ (bits 0x3F800000#32)) (k0_pay6 v) (ix2 r 0)
  rw [pay5_at, pay6_at] at h
  have h1 : (bits 0x3F800000#32 : EReal) = 1 := Ideal.ofBits_one_f32
  refine Eq.trans h ?_
  show (if _ then (bits 0x3F800000#32 : EReal) else _) = _
  rw [h1]
  rfl

/-- A column spread over the rows. -/
theorem spread_at (w : FVec Ideal S16384x1 .f32) (r : Fin 16384) (d : Fin 1280) :
    broadcastTo S16384x1280 w broadcasts_S16384x1_S16384x1280 (ix2 r d) = w (ix2 r 0) := by
  pointwise

/-- The codes of `x` at an index. -/
theorem pay8_at (v : Vec Ideal S16384x1280 .bf16) (r : Fin 16384) (d : Fin 1280) :
    k0_pay8 v (ix2 r d) = rCode (amax fun d => v (ix2 r d)) (v (ix2 r d)) := by
  have h := clip_at (k0_pay4 v) (broadcastTo S16384x1280 (exp2 (subf (broadcast _ (bits 0x00000000#32)) (k0_pay6 v)))
    broadcasts_S16384x1_S16384x1280) (ix2 r d)
  rw [pay4_at, spread_at, nexp_at, pay6_at] at h
  exact h

/-- The codes of `x` in their result layout, at an index. -/
theorem fold9_at (w : FVec Ideal S16384x1280 .fp8e4m3) (b : Fin 2) (r : Fin 8192) (d : Fin 1280) :
    shapeCast S2x8192x1280 w shapeCasts_S16384x1280_S2x8192x1280 (ix3 b r d)
      = w (ix2 ⟨b.val * 8192 + r.val, by omega⟩ d) := by
  pointwise

/-- The scales of `x` in their result layout, at an index. -/
theorem fold10_at (w : FVec Ideal S16384x1 .f32) (b : Fin 2) (r : Fin 8192) :
    shapeCast S2x1x8192 (transpose S1x16384 [1, 0] w transposes_S16384x1_p1_0_S1x16384) shapeCasts_S1x16384_S2x1x8192 (ix3 b 0 r)
      = w (ix2 ⟨b.val * 8192 + r.val, by omega⟩ 0) := by
  pointwise

/-! ## The two products and the gated unit -/

/-- The product of codes and weights at an index is a sum over the 1280 features. -/
theorem prod_at (u : FVec Ideal S16384x1280 .fp8e4m3) (w : Vec Ideal S1280x2816 .fp8e4m3) (r : Fin 16384) (c : Fin 2816) :
    matmul dot_S16384x1280_S1280x2816_S16384x2816_1_0_0_1_n_n none u (shapeCast S1280x2816 w shapeCasts_S1280x2816_S1280x2816 : FVec Ideal S1280x2816 .fp8e4m3)
      (constant S16384x2816 .f32 0x00000000#32) (ix2 r c) = ∑ d : Fin 1280, u (ix2 r d) * w (ix2 d c) := by
  pointwise

/-- A column spread over the hidden features, at an index. -/
theorem spreadW_at (w : FVec Ideal S16384x1 .f32) (r : Fin 16384) (c : Fin 2816) :
    broadcastTo S16384x2816 w broadcasts_S16384x1_S16384x2816 (ix2 r c) = w (ix2 r 0) := by
  pointwise

/-- A row spread over the tokens, at an index. -/
theorem cols_at (w : FVec Ideal S1x2816 .f32) (r : Fin 16384) (c : Fin 2816) :
    broadcastTo S16384x2816 (shapeCast S1x2816 w shapeCasts_S1x2816_S1x2816) broadcasts_S1x2816_S16384x2816 (ix2 r c) = w (ix2 0 c) := by
  pointwise

/-- The hidden array cut into groups, at an index. -/
theorem fold11_at (w : FVec Ideal S16384x2816 .f32) (r : Fin 16384) (g : Fin 22) (j : Fin 128) :
    shapeCast S16384x22x128 w shapeCasts_S16384x2816_S16384x22x128 (ix3 r g j)
      = w (ix2 r ⟨g.val * 128 + j.val, by omega⟩) := by
  pointwise

/-- The row scales with a group axis, at an index. -/
theorem fold12_at (w : FVec Ideal S16384x1 .f32) (r : Fin 16384) (g : Fin 22) :
    broadcastTo S16384x22x1 (shapeCast S16384x1x1 (shapeCast S16384x1x1 w shapeCasts_S16384x1_S16384x1x1) shapeCasts_S16384x1x1_S16384x1x1) broadcasts_S16384x1x1_S16384x22x1 (ix3 r g 0)
      = w (ix2 r 0) := by
  pointwise

/-- The largest magnitude of a group. -/
theorem grpmax_at (w : FVec Ideal S16384x22x128 .f32) (r : Fin 16384) (g : Fin 22) :
    shapeCast S16384x22x1 (multiReduction .maximumf [2] S16384x22 (absf w) 0xFF800000#32 reduces_S16384x22x128_S16384x22 (.inl rfl) rfl) shapeCasts_S16384x22_S16384x22x1 (ix3 r g 0)
      = amax fun j => w (ix3 r g j) := by
  pointwise
  rfl

/-- A value of each group spread over the group, at an index. -/
theorem spreadG_at (w : FVec Ideal S16384x22x1 .f32) (r : Fin 16384) (g : Fin 22) (j : Fin 128) :
    broadcastTo S16384x22x128 w broadcasts_S16384x22x1_S16384x22x128 (ix3 r g j) = w (ix3 r g 0) := by
  pointwise

/-- The hidden codes in their result layout, at an index. -/
theorem fold2_at (w : FVec Ideal S16384x22x128 .fp8e4m3) (b : Fin 2) (r : Fin 8192) (c : Fin 2816) :
    shapeCast S2x8192x2816 w shapeCasts_S16384x22x128_S2x8192x2816 (ix3 b r c)
      = w (ix3 ⟨b.val * 8192 + r.val, by omega⟩ ⟨c.val / 128, by omega⟩ ⟨c.val % 128, by omega⟩) := by
  pointwise

/-- The hidden scales in their result layout, at an index. -/
theorem fold3_at (w : FVec Ideal S16384x22x1 .f32) (b : Fin 2) (r : Fin 8192) (g : Fin 22) :
    shapeCast S22x2x8192 (transpose S22x16384 [1, 0] (shapeCast S16384x22 w shapeCasts_S16384x22x1_S16384x22) transposes_S16384x22_p1_0_S22x16384) shapeCasts_S22x16384_S22x2x8192 (ix3 g b r)
      = w (ix3 ⟨b.val * 8192 + r.val, by omega⟩ g 0) := by
  pointwise

/-- The hidden row `r` of the reference at column `c` of its flat layout, from the codes `u` and the scales `w`. -/
theorem pay11_at (w : FVec Ideal S16384x1 .f32) (u : FVec Ideal S16384x1280 .fp8e4m3) (wg : Vec Ideal S1280x2816 .fp8e4m3)
    (sg : Vec Ideal S1x2816 .f32) (wu : Vec Ideal S1280x2816 .fp8e4m3) (su : Vec Ideal S1x2816 .f32) (r : Fin 16384) (g : Fin 22)
    (j : Fin 128) :
    k0_pay11 w u wg sg wu su (ix3 r g j)
      = rGate (w (ix2 r 0)) (∑ d : Fin 1280, u (ix2 r d) * wg (ix2 d ⟨g.val * 128 + j.val, by omega⟩))
          (∑ d : Fin 1280, u (ix2 r d) * wu (ix2 d ⟨g.val * 128 + j.val, by omega⟩)) (sg (ix2 0 ⟨g.val * 128 + j.val, by omega⟩))
          (su (ix2 0 ⟨g.val * 128 + j.val, by omega⟩)) := by
  refine (fold11_at _ r g j).trans ((gelu_at _ _ cubic_eq sqrt_eq _ _ _).trans ?_)
  simp only [mulf_apply, Ideal.mulf_def, prod_at, spreadW_at, cols_at]
  rfl

/-- The largest magnitude of group `g` of row `r`. -/
theorem pay13_at (w : FVec Ideal S16384x1 .f32) (u : FVec Ideal S16384x1280 .fp8e4m3) (wg : Vec Ideal S1280x2816 .fp8e4m3)
    (sg : Vec Ideal S1x2816 .f32) (wu : Vec Ideal S1280x2816 .fp8e4m3) (su : Vec Ideal S1x2816 .f32) (r : Fin 16384) (g : Fin 22) :
    k0_pay13 w u wg sg wu su (ix3 r g 0) = amax fun j => k0_pay11 w u wg sg wu su (ix3 r g j) :=
  grpmax_at _ r g

/-- The exponent of a group before the case of a vanishing one. -/
theorem pay14_at (w : FVec Ideal S16384x1 .f32) (u : FVec Ideal S16384x1280 .fp8e4m3) (wg : Vec Ideal S1280x2816 .fp8e4m3)
    (sg : Vec Ideal S1x2816 .f32) (wu : Vec Ideal S1280x2816 .fp8e4m3) (su : Vec Ideal S1x2816 .f32) (i : S16384x22x1.Idx) :
    k0_pay14 w u wg sg wu su i = lexp (k0_pay13 w u wg sg wu su i) + 1 :=
  lexp1_at _ _ inv448_eq log2e_eq (k0_pay13 w u wg sg wu su) i

/-- The exponent of a group at an index, zero for a vanishing group. -/
theorem pay1_at (a e : FVec Ideal S16384x22x1 .f32) (i : S16384x22x1.Idx) :
    k0_pay1 a e i = if a i = 0 then 0 else e i := zsel_at a e i

/-- The codes of the hidden array. -/
theorem pay2_at (h : FVec Ideal S16384x22x128 .f32) (a e : FVec Ideal S16384x22x1 .f32)
    (he : ∀ i, e i = lexp (a i) + 1) (b : Fin 2) (r : Fin 8192) (c : Fin 2816) :
    k0_pay2 h a e (ix3 b r c)
      = rCode (a (ix3 ⟨b.val * 8192 + r.val, by omega⟩ ⟨c.val / 128, by omega⟩ 0))
          (h (ix3 ⟨b.val * 8192 + r.val, by omega⟩ ⟨c.val / 128, by omega⟩ ⟨c.val % 128, by omega⟩)) := by
  refine (fold2_at _ b r c).trans ((clip_at h (broadcastTo S16384x22x128 (exp2 (subf (broadcast _ (bits 0x00000000#32)) (k0_pay1 a e)))
    broadcasts_S16384x22x1_S16384x22x128) _).trans ?_)
  rw [spreadG_at, nexp_at, pay1_at, he]
  rfl

/-- The scales of the hidden array; `z` holds the scale of a group that vanishes. -/
theorem pay3_at (z : FVec Ideal S16384x1 .f32) (a e : FVec Ideal S16384x22x1 .f32)
    (he : ∀ i, e i = lexp (a i) + 1) (b : Fin 2) (r : Fin 8192) (g : Fin 22) :
    k0_pay3 (k0_pay12 z) a e (ix3 g b r)
      = rScale (z (ix2 ⟨b.val * 8192 + r.val, by omega⟩ 0)) (a (ix3 ⟨b.val * 8192 + r.val, by omega⟩ g 0)) := by
  refine (fold3_at _ b r g).trans ((ssel_at a _ (k0_pay1 a e) _).trans ?_)
  rw [pay1_at, he]
  unfold rScale rExp
  exact if_congr Iff.rfl (fold12_at z _ g) rfl

end Cert.ReferenceIdeal.Run

end
-- ==== Proof.RefArr.lean ====
/- What the arrays of the reference hold after its run, in terms of its arguments. -/
module

public import proofs.«01_k».proof.Proof.RefVal
public import proofs.«01_k».proof.Proof.Target

@[expose] public section

set_option maxRecDepth 16384

noncomputable section

namespace Cert.ReferenceIdeal.Run

open Cert.ReferenceIdeal Cert.ReferenceIdeal.Gen Idealize.ShloMosaic Idealize.ShloMosaic.TcCoe Idealize.SL.Sem Cert.Spec Cert.Elem
open Idealize.ShloMosaic.Pipeline (Dat Cfg Window)

variable (m : (ℓ : Loc nD τ sig) → Buf (Elt Ideal) ℓ)

/-- The one grid point. -/
def t₀ : Fin cfg0.N := ⟨0, by decide⟩

/-- A device's argument `x`. -/
abbrev argX (c : Dev nD) : Vec Ideal S2x8192x1280 .bf16 := m ((c : Thread nD τ).loc main_arg0)
/-- A device's weights. -/
abbrev argW (c : Dev nD) : Vec Ideal S1280x22x2x128 .fp8e4m3 := m ((c : Thread nD τ).loc main_arg1)
/-- A device's weight scales. -/
abbrev argS (c : Dev nD) : Vec Ideal S22x2x128 .f32 := m ((c : Thread nD τ).loc main_arg2)

/-- The rows of `x`, as one matrix. -/
def xMat (a : Vec Ideal S2x8192x1280 .bf16) : Vec Ideal S16384x1280 .bf16 := shapeCast S16384x1280 a shapeCasts_S2x8192x1280_S16384x1280
/-- Half 0 of the weights, as one matrix. -/
def wMat0 (a : Vec Ideal S1280x22x2x128 .fp8e4m3) : Vec Ideal S1280x2816 .fp8e4m3 :=
  shapeCast S1280x2816 (shapeCast S1280x22x128 (extractStridedSlice S1280x22x1x128 ![0, 0, 0, 0] a slices_S1280x22x2x128_S1280x22x1x128_0_0_0_0) shapeCasts_S1280x22x1x128_S1280x22x128) shapeCasts_S1280x22x128_S1280x2816
/-- Half 0 of the weight scales, as one row. -/
def sMat0 (a : Vec Ideal S22x2x128 .f32) : Vec Ideal S1x2816 .f32 :=
  shapeCast S1x2816 (shapeCast S22x128 (extractStridedSlice S22x1x128 ![0, 0, 0] a slices_S22x2x128_S22x1x128_0_0_0) shapeCasts_S22x1x128_S22x128) shapeCasts_S22x128_S1x2816
/-- Half 1 of the weights, as one matrix. -/
def wMat1 (a : Vec Ideal S1280x22x2x128 .fp8e4m3) : Vec Ideal S1280x2816 .fp8e4m3 :=
  shapeCast S1280x2816 (shapeCast S1280x22x128 (extractStridedSlice S1280x22x1x128 ![0, 0, 1, 0] a slices_S1280x22x2x128_S1280x22x1x128_0_0_1_0) shapeCasts_S1280x22x1x128_S1280x22x128) shapeCasts_S1280x22x128_S1280x2816
/-- Half 1 of the weight scales, as one row. -/
def sMat1 (a : Vec Ideal S22x2x128 .f32) : Vec Ideal S1x2816 .f32 :=
  shapeCast S1x2816 (shapeCast S22x128 (extractStridedSlice S22x1x128 ![0, 1, 0] a slices_S22x2x128_S22x1x128_0_1_0) shapeCasts_S22x1x128_S22x128) shapeCasts_S22x128_S1x2816

/-! ## The operations before the call -/

/-- The rows of `x`. -/
theorem V_v0 (c : Dev nD) : (V m c main_v0 : Vec Ideal S16384x1280 .bf16)
    = xMat (argX m c) := by
  unfold_abbrev_sides
  after_results
  rfl

/-- The gate half of the weights. -/
theorem V_v3 (c : Dev nD) : (V m c main_v3 : Vec Ideal S1280x2816 .fp8e4m3)
    = wMat0 (argW m c) := by
  unfold_abbrev_sides
  after_results
  rfl

/-- It holds, at column `g * 128 + j`, the argument at `(g, 0, j)`. -/
theorem w0_at (a : Vec Ideal S1280x22x2x128 .fp8e4m3) (d : Fin 1280) (g : Fin 22) (j : Fin 128) :
    wMat0 a (ix2 d ⟨g.val * 128 + j.val, by omega⟩) = a (ix4 d g 0 j) := by
  pointwise [wMat0]

/-- The up half of the weights. -/
theorem V_v6 (c : Dev nD) : (V m c main_v6 : Vec Ideal S1280x2816 .fp8e4m3)
    = wMat1 (argW m c) := by
  unfold_abbrev_sides
  after_results
  rfl

/-- It holds, at column `g * 128 + j`, the argument at `(g, 1, j)`. -/
theorem w1_at (a : Vec Ideal S1280x22x2x128 .fp8e4m3) (d : Fin 1280) (g : Fin 22) (j : Fin 128) :
    wMat1 a (ix2 d ⟨g.val * 128 + j.val, by omega⟩) = a (ix4 d g 1 j) := by
  pointwise [wMat1]

/-- The gate half of the weight scales. -/
theorem V_v9 (c : Dev nD) : (V m c main_v9 : Vec Ideal S1x2816 .f32)
    = sMat0 (argS m c) := by
  unfold_abbrev_sides
  after_results
  rfl

/-- It holds, at column `g * 128 + j`, the argument at `(g, 0, j)`. -/
theorem s0_at (a : Vec Ideal S22x2x128 .f32) (g : Fin 22) (j : Fin 128) :
    sMat0 a (ix2 0 ⟨g.val * 128 + j.val, by omega⟩) = a (ix3 g 0 j) := by
  pointwise [sMat0]

/-- The up half of the weight scales. -/
theorem V_v12 (c : Dev nD) : (V m c main_v12 : Vec Ideal S1x2816 .f32)
    = sMat1 (argS m c) := by
  unfold_abbrev_sides
  after_results
  rfl

/-- It holds, at column `g * 128 + j`, the argument at `(g, 1, j)`. -/
theorem s1_at (a : Vec Ideal S22x2x128 .f32) (g : Fin 22) (j : Fin 128) :
    sMat1 a (ix2 0 ⟨g.val * 128 + j.val, by omega⟩) = a (ix3 g 1 j) := by
  pointwise [sMat1]

/-- Row `b * 8192 + r` of `x`. -/
theorem x_at (a : Vec Ideal S2x8192x1280 .bf16) (b : Fin 2) (r : Fin 8192) (d : Fin 1280) :
    xMat a (ix2 ⟨b.val * 8192 + r.val, by omega⟩ d)
      = a (ix3 b r d) := by
  pointwise [xMat]

/-! ## The blocks: each is the whole array -/

/-- The block of the first operand is the whole array. -/
theorem iblk0 (c : Dev nD) : iblk m c 0 t₀ = (V m c main_v0 : Vec Ideal S16384x1280 .bf16) := by
  have hz0 : (fun a => (win0_0.index t₀) a * main_v0.ty.shape.size a) = fun _ => 0 :=
    funext fun a => by fin_cases a <;> decide
  exact Memref.read_access_unit_zero (Elt Ideal) main_v0 hz0 (fun a => by fin_cases a <;> decide) _

/-- The block of the second operand is the whole array. -/
theorem iblk1 (c : Dev nD) : iblk m c 1 t₀ = (V m c main_v3 : Vec Ideal S1280x2816 .fp8e4m3) := by
  have hz0 : (fun a => (win0_1.index t₀) a * main_v3.ty.shape.size a) = fun _ => 0 :=
    funext fun a => by fin_cases a <;> decide
  exact Memref.read_access_unit_zero (Elt Ideal) main_v3 hz0 (fun a => by fin_cases a <;> decide) _

/-- The block of the third operand is the whole array. -/
theorem iblk2 (c : Dev nD) : iblk m c 2 t₀ = (V m c main_v6 : Vec Ideal S1280x2816 .fp8e4m3) := by
  have hz0 : (fun a => (win0_2.index t₀) a * main_v6.ty.shape.size a) = fun _ => 0 :=
    funext fun a => by fin_cases a <;> decide
  exact Memref.read_access_unit_zero (Elt Ideal) main_v6 hz0 (fun a => by fin_cases a <;> decide) _

/-- The block of the fourth operand is the whole array. -/
theorem iblk3 (c : Dev nD) : iblk m c 3 t₀ = (V m c main_v9 : Vec Ideal S1x2816 .f32) := by
  have hz0 : (fun a => (win0_3.index t₀) a * main_v9.ty.shape.size a) = fun _ => 0 :=
    funext fun a => by fin_cases a <;> decide
  exact Memref.read_access_unit_zero (Elt Ideal) main_v9 hz0 (fun a => by fin_cases a <;> decide) _

/-- The block of the fifth operand is the whole array. -/
theorem iblk4 (c : Dev nD) : iblk m c 4 t₀ = (V m c main_v12 : Vec Ideal S1x2816 .f32) := by
  have hz0 : (fun a => (win0_4.index t₀) a * main_v12.ty.shape.size a) = fun _ => 0 :=
    funext fun a => by fin_cases a <;> decide
  exact Memref.read_access_unit_zero (Elt Ideal) main_v12 hz0 (fun a => by fin_cases a <;> decide) _

/-- The zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

section
variable (x0 : Vec Ideal S16384x1280 .bf16) (x1 x2 : Vec Ideal S1280x2816 .fp8e4m3) (x3 x4 : Vec Ideal S1x2816 .f32)

/-- What the body stores in the hidden codes. -/
theorem out5_eq : out0_5 x0 x1 x2 x3 x4
    = k0_pay2 (k0_pay11 (k0_pay7 x0) (k0_pay8 x0) x1 x3 x2 x4) (k0_pay13 (k0_pay7 x0) (k0_pay8 x0) x1 x3 x2 x4) (k0_pay14 (k0_pay7 x0) (k0_pay8 x0) x1 x3 x2 x4) := by
  unfold out0_5 k0_pay18 k0_pay17 k0_pay16 k0_pay15
  rw [View.canon_unit_zero zero3, View.ld_unit_zero zero2, View.ld_unit_zero zero2, View.ld_unit_zero zero2, View.ld_unit_zero zero2, View.ld_unit_zero zero2]

/-- What the body stores in the hidden scales. -/
theorem out6_eq : out0_6 x0 x1 x2 x3 x4
    = k0_pay3 (k0_pay12 (k0_pay7 x0)) (k0_pay13 (k0_pay7 x0) (k0_pay8 x0) x1 x3 x2 x4) (k0_pay14 (k0_pay7 x0) (k0_pay8 x0) x1 x3 x2 x4) := by
  unfold out0_6 k0_pay18 k0_pay17 k0_pay16 k0_pay15
  rw [View.canon_unit_zero zero3, View.ld_unit_zero zero2, View.ld_unit_zero zero2, View.ld_unit_zero zero2, View.ld_unit_zero zero2, View.ld_unit_zero zero2]

/-- What the body stores in the codes of `x`. -/
theorem out7_eq : out0_7 x0 x1 x2 x3 x4 = k0_pay9 x0 := by
  unfold out0_7
  rw [View.canon_unit_zero zero3, View.ld_unit_zero zero2]

/-- What the body stores in the scales of `x`. -/
theorem out8_eq : out0_8 x0 x1 x2 x3 x4 = k0_pay10 x0 := by
  unfold out0_8
  rw [View.canon_unit_zero zero3, View.ld_unit_zero zero2]
end

/-- The array of hidden codes after the run. -/
theorem arr5 (c : Dev nD) : ((dats m 0 c).arrAt 5 cfg0.N : Vec Ideal S2x8192x2816 .fp8e4m3)
    = out0_5 (V m c main_v0 : Vec Ideal S16384x1280 .bf16) (V m c main_v3 : Vec Ideal S1280x2816 .fp8e4m3) (V m c main_v6 : Vec Ideal S1280x2816 .fp8e4m3) (V m c main_v9 : Vec Ideal S1x2816 .f32) (V m c main_v12 : Vec Ideal S1x2816 .f32) := by
  have ho := blocks5 m c t₀ (by decide)
  have hz2 : (fun a => (win0_5.index t₀) a * main_v13_0.ty.shape.size a) = fun _ => 0 :=
    funext fun a => by fin_cases a <;> decide
  have hr2 := fun f => Memref.read_access_unit_zero (Elt Ideal) main_v13_0 hz2 (fun a => by fin_cases a <;> decide) f
  rw [flushed5, iblk0, iblk1, iblk2, iblk3, iblk4] at ho
  exact (hr2 _).symm.trans ho

/-- The array of hidden scales after the run. -/
theorem arr6 (c : Dev nD) : ((dats m 0 c).arrAt 6 cfg0.N : Vec Ideal S22x2x8192 .f32)
    = out0_6 (V m c main_v0 : Vec Ideal S16384x1280 .bf16) (V m c main_v3 : Vec Ideal S1280x2816 .fp8e4m3) (V m c main_v6 : Vec Ideal S1280x2816 .fp8e4m3) (V m c main_v9 : Vec Ideal S1x2816 .f32) (V m c main_v12 : Vec Ideal S1x2816 .f32) := by
  have ho := blocks6 m c t₀ (by decide)
  have hz2 : (fun a => (win0_6.index t₀) a * main_v13_1.ty.shape.size a) = fun _ => 0 :=
    funext fun a => by fin_cases a <;> decide
  have hr2 := fun f => Memref.read_access_unit_zero (Elt Ideal) main_v13_1 hz2 (fun a => by fin_cases a <;> decide) f
  rw [flushed6, iblk0, iblk1, iblk2, iblk3, iblk4] at ho
  exact (hr2 _).symm.trans ho

/-- The array of codes of `x` after the run. -/
theorem arr7 (c : Dev nD) : ((dats m 0 c).arrAt 7 cfg0.N : Vec Ideal S2x8192x1280 .fp8e4m3)
    = out0_7 (V m c main_v0 : Vec Ideal S16384x1280 .bf16) (V m c main_v3 : Vec Ideal S1280x2816 .fp8e4m3) (V m c main_v6 : Vec Ideal S1280x2816 .fp8e4m3) (V m c main_v9 : Vec Ideal S1x2816 .f32) (V m c main_v12 : Vec Ideal S1x2816 .f32) := by
  have ho := blocks7 m c t₀ (by decide)
  have hz2 : (fun a => (win0_7.index t₀) a * main_v13_2.ty.shape.size a) = fun _ => 0 :=
    funext fun a => by fin_cases a <;> decide
  have hr2 := fun f => Memref.read_access_unit_zero (Elt Ideal) main_v13_2 hz2 (fun a => by fin_cases a <;> decide) f
  rw [flushed7, iblk0, iblk1, iblk2, iblk3, iblk4] at ho
  exact (hr2 _).symm.trans ho

/-- The array of scales of `x` after the run. -/
theorem arr8 (c : Dev nD) : ((dats m 0 c).arrAt 8 cfg0.N : Vec Ideal S2x1x8192 .f32)
    = out0_8 (V m c main_v0 : Vec Ideal S16384x1280 .bf16) (V m c main_v3 : Vec Ideal S1280x2816 .fp8e4m3) (V m c main_v6 : Vec Ideal S1280x2816 .fp8e4m3) (V m c main_v9 : Vec Ideal S1x2816 .f32) (V m c main_v12 : Vec Ideal S1x2816 .f32) := by
  have ho := blocks8 m c t₀ (by decide)
  have hz2 : (fun a => (win0_8.index t₀) a * main_v13_3.ty.shape.size a) = fun _ => 0 :=
    funext fun a => by fin_cases a <;> decide
  have hr2 := fun f => Memref.read_access_unit_zero (Elt Ideal) main_v13_3 hz2 (fun a => by fin_cases a <;> decide) f
  rw [flushed8, iblk0, iblk1, iblk2, iblk3, iblk4] at ho
  exact (hr2 _).symm.trans ho

/-! ## The four results -/

/-- The row of `x` at `(b, r)`. -/
abbrev row (a : Vec Ideal S2x8192x1280 .bf16) (b : Fin 2) (r : Fin 8192) : Fin 1280 → EReal := fun d => a (ix3 b r d)
/-- The columns of half `p` of group `g` of the weights. -/
abbrev cols (a : Vec Ideal S1280x22x2x128 .fp8e4m3) (g : Fin 22) (p : Fin 2) : Fin 128 → Fin 1280 → EReal := fun j d => a (ix4 d g p j)
/-- The scales of half `p` of group `g`. -/
abbrev colS (a : Vec Ideal S22x2x128 .f32) (g : Fin 22) (p : Fin 2) : Fin 128 → EReal := fun j => a (ix3 g p j)

/-- The reference's hidden row `(b, r)` in group `g`. -/
abbrev hidRow (x : Vec Ideal S2x8192x1280 .bf16) (w : Vec Ideal S1280x22x2x128 .fp8e4m3) (s : Vec Ideal S22x2x128 .f32) (b : Fin 2) (r : Fin 8192) (g : Fin 22) : Fin 128 → EReal :=
  rHid (row x b r) (cols w g 0) (cols w g 1) (colS s g 0) (colS s g 1)

section
variable (x : Vec Ideal S2x8192x1280 .bf16) (w : Vec Ideal S1280x22x2x128 .fp8e4m3) (s : Vec Ideal S22x2x128 .f32)

/-- The hidden rows before they are quantised. -/
theorem hid_at (b : Fin 2) (r : Fin 8192) (g : Fin 22) (j : Fin 128) :
    k0_pay11 (k0_pay7 (xMat x)) (k0_pay8 (xMat x)) (wMat0 w) (sMat0 s) (wMat1 w) (sMat1 s) (ix3 ⟨b.val * 8192 + r.val, by omega⟩ g j)
      = hidRow x w s b r g j := by
  rw [pay11_at, pay7_at]
  simp only [w0_at, w1_at, s0_at, s1_at, pay8_at, x_at]
  rfl

/-- The codes of `x`. -/
theorem xc_val (b : Fin 2) (r : Fin 8192) (d : Fin 1280) :
    k0_pay9 (xMat x) (ix3 b r d) = rCode (amax (row x b r)) (row x b r d) := by
  refine (fold9_at _ b r d).trans ((pay8_at _ _ d).trans ?_)
  simp only [x_at]

/-- The scales of `x`. -/
theorem xs_val (b : Fin 2) (r : Fin 8192) :
    k0_pay10 (xMat x) (ix3 b 0 r) = rScale 1 (amax (row x b r)) := by
  refine (fold10_at _ b r).trans ((pay7_at _ _).trans ?_)
  simp only [x_at]

/-- The codes of the hidden array. -/
theorem hc_val (b : Fin 2) (r : Fin 8192) (k : Fin 2816) :
    out0_5 (xMat x) (wMat0 w) (wMat1 w) (sMat0 s) (sMat1 s) (ix3 b r k)
      = rCode (amax (hidRow x w s b r ⟨k.val / 128, by omega⟩)) (hidRow x w s b r ⟨k.val / 128, by omega⟩ ⟨k.val % 128, by omega⟩) := by
  rw [out5_eq, pay2_at _ _ _ (pay14_at _ _ _ _ _ _), pay13_at]
  simp only [hid_at]

/-- The scales of the hidden array. -/
theorem hs_val (g : Fin 22) (b : Fin 2) (r : Fin 8192) :
    out0_6 (xMat x) (wMat0 w) (wMat1 w) (sMat0 s) (sMat1 s) (ix3 g b r)
      = rScale (rScale 1 (amax (row x b r))) (amax (hidRow x w s b r g)) := by
  rw [out6_eq, pay3_at _ _ _ (pay14_at _ _ _ _ _ _), pay13_at, pay7_at]
  simp only [hid_at, x_at]
end

/-- Result 1, the codes of the hidden array. -/
theorem hc_at (c : Dev nD) (b : Fin 2) (r : Fin 8192) (k : Fin 2816) :
    ((dats m 0 c).arrAt 5 cfg0.N : Vec Ideal S2x8192x2816 .fp8e4m3) (ix3 b r k)
      = rCode (amax (hidRow (argX m c) (argW m c) (argS m c) b r ⟨k.val / 128, by omega⟩)) (hidRow (argX m c) (argW m c) (argS m c) b r ⟨k.val / 128, by omega⟩ ⟨k.val % 128, by omega⟩) := by
  rw [arr5, V_v0, V_v3, V_v6, V_v9, V_v12]
  exact hc_val _ _ _ b r k

/-- Result 2, the scales of the hidden array. -/
theorem hs_at (c : Dev nD) (g : Fin 22) (b : Fin 2) (r : Fin 8192) :
    ((dats m 0 c).arrAt 6 cfg0.N : Vec Ideal S22x2x8192 .f32) (ix3 g b r)
      = rScale (rScale 1 (amax (row (argX m c) b r))) (amax (hidRow (argX m c) (argW m c) (argS m c) b r g)) := by
  rw [arr6, V_v0, V_v3, V_v6, V_v9, V_v12]
  exact hs_val _ _ _ g b r

/-- Result 3, the codes of `x`. -/
theorem xc_at (c : Dev nD) (b : Fin 2) (r : Fin 8192) (d : Fin 1280) :
    ((dats m 0 c).arrAt 7 cfg0.N : Vec Ideal S2x8192x1280 .fp8e4m3) (ix3 b r d)
      = rCode (amax (row (argX m c) b r)) (row (argX m c) b r d) := by
  rw [arr7, out7_eq, V_v0]
  exact xc_val _ b r d

/-- Result 4, the scales of `x`. -/
theorem xs_at (c : Dev nD) (b : Fin 2) (r : Fin 8192) :
    ((dats m 0 c).arrAt 8 cfg0.N : Vec Ideal S2x1x8192 .f32) (ix3 b 0 r)
      = rScale 1 (amax (row (argX m c) b r)) := by
  rw [arr8, out8_eq, V_v0]
  exact xs_val _ b r

end Cert.ReferenceIdeal.Run

end
-- ==== Proof.lean ====
module

public import proofs.«01_k».proof.Defs
public import proofs.«01_k».proof.Proof.Gen.Kernel.Frame
public import proofs.«01_k».proof.Proof.KArr
public import proofs.«01_k».proof.Proof.RefArr

@[expose] public section

noncomputable section

namespace Cert.Proof

open Idealize.ShloMosaic Idealize.SL.Sem Cert.Spec Cert.Elem

/-- Each constant the kernel names has, rounded, the value the kernel's text gives it. -/
theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl⟩

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : Cert.ReferenceIdeal.Run.argX m' c = Cert.KernelIdeal.Run.argX m c)
  (h1 : Cert.ReferenceIdeal.Run.argW m' c = Cert.KernelIdeal.Run.argW m c)
  (h2 : Cert.ReferenceIdeal.Run.argS m' c = Cert.KernelIdeal.Run.argS m c)
include h0

/-- The codes of `x` agree. -/
theorem xc_agree : (Cert.ReferenceIdeal.Gen.dats m' 0 c).arrAt 7 Cert.ReferenceIdeal.cfg0.N = Cert.KernelIdeal.Run.aXc (Cert.KernelIdeal.Run.argX m c) := by
  refine funext fun y => ?_
  obtain ⟨b, r, d, rfl⟩ : ∃ (b : Fin 2) (r : Fin 8192) (d : Fin 1280), y = ix3 b r d := ⟨y 0, y 1, y 2, eq_ix3 y⟩
  refine (Cert.ReferenceIdeal.Run.xc_at m' c b r d).trans ?_
  rw [h0]
  exact (xc_eq (Cert.KernelIdeal.Run.krow (Cert.KernelIdeal.Run.argX m c) b r) d).symm

/-- The scales of `x` agree. -/
theorem xs_agree : (Cert.ReferenceIdeal.Gen.dats m' 0 c).arrAt 8 Cert.ReferenceIdeal.cfg0.N = Cert.KernelIdeal.Run.aXs (Cert.KernelIdeal.Run.argX m c) := by
  refine funext fun y => ?_
  obtain ⟨b, z, r, rfl⟩ : ∃ (b : Fin 2) (z : Fin 1) (r : Fin 8192), y = ix3 b z r := ⟨y 0, y 1, y 2, eq_ix3 y⟩
  obtain rfl : z = 0 := Subsingleton.elim _ _
  refine (Cert.ReferenceIdeal.Run.xs_at m' c b r).trans ?_
  rw [h0]
  exact (kScale_eq (amax (Cert.KernelIdeal.Run.krow (Cert.KernelIdeal.Run.argX m c) b r))).symm

include h1 h2

/-- The codes of the hidden rows agree. -/
theorem hc_agree : (Cert.ReferenceIdeal.Gen.dats m' 0 c).arrAt 5 Cert.ReferenceIdeal.cfg0.N
    = Cert.KernelIdeal.Run.aHc (Cert.KernelIdeal.Run.argX m c) (Cert.KernelIdeal.Run.argW m c) (Cert.KernelIdeal.Run.argS m c) := by
  refine funext fun y => ?_
  obtain ⟨b, r, k, rfl⟩ : ∃ (b : Fin 2) (r : Fin 8192) (k : Fin 2816), y = ix3 b r k := ⟨y 0, y 1, y 2, eq_ix3 y⟩
  refine (Cert.ReferenceIdeal.Run.hc_at m' c b r k).trans ?_
  rw [h0, h1, h2]
  exact (hc_eq _ _ _ _ _ _).1.symm

/-- The scales of the hidden rows agree. -/
theorem hs_agree : (Cert.ReferenceIdeal.Gen.dats m' 0 c).arrAt 6 Cert.ReferenceIdeal.cfg0.N
    = Cert.KernelIdeal.Run.aHs (Cert.KernelIdeal.Run.argX m c) (Cert.KernelIdeal.Run.argW m c) (Cert.KernelIdeal.Run.argS m c) := by
  refine funext fun y => ?_
  obtain ⟨g, b, r, rfl⟩ : ∃ (g : Fin 22) (b : Fin 2) (r : Fin 8192), y = ix3 g b r := ⟨y 0, y 1, y 2, eq_ix3 y⟩
  refine (Cert.ReferenceIdeal.Run.hs_at m' c g b r).trans ?_
  rw [h0, h1, h2]
  exact (hc_eq _ _ _ _ _ 0).2.symm

end

/-- Both programs run, and from equal arguments their four results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Run.aHc (Cert.KernelIdeal.Run.argX m c) (Cert.KernelIdeal.Run.argW m c) (Cert.KernelIdeal.Run.argS m c),
    fun c => Cert.KernelIdeal.Run.aHs (Cert.KernelIdeal.Run.argX m c) (Cert.KernelIdeal.Run.argW m c) (Cert.KernelIdeal.Run.argS m c),
    fun c => Cert.KernelIdeal.Run.aXc (Cert.KernelIdeal.Run.argX m c), fun c => Cert.KernelIdeal.Run.aXs (Cert.KernelIdeal.Run.argX m c), ?_, ?_⟩
  · refine (θ_run (Cert.KernelIdeal.defs (F := Ideal)) _ _).mono (fun r h c => ?_) (Cert.KernelIdeal.Value.run_blocks (F := Ideal) m g)
    obtain ⟨k0, k1, k2, k3, ka⟩ := h c
    exact ⟨k0.trans (Cert.KernelIdeal.Run.arr3 m c), k1.trans (Cert.KernelIdeal.Run.arr4 m c), k2.trans (Cert.KernelIdeal.Run.arr5 m c),
      k3.trans (Cert.KernelIdeal.Run.arr6 m c), ka⟩
  · refine (θ_run (Cert.ReferenceIdeal.defs (F := Ideal)) _ _).mono (fun r h c => ?_) (Cert.ReferenceIdeal.Run.run_blocks (F := Ideal) m' g')
    obtain ⟨k0, k1, k2, k3, ka⟩ := h c
    obtain ⟨h0, h1, h2⟩ := hargs c
    exact ⟨k0.trans (hc_agree m m' c h0 h1 h2), k1.trans (hs_agree m m' c h0 h1 h2), k2.trans (xc_agree m m' c h0),
      k3.trans (xs_agree m m' c h0), ka⟩

/-- All the claims: the three frames, the named constants and the equality of the results. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, preserves, algebraic⟩

end Cert.Proof

end
